-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mod [hPre_finite_mod : Cert.Pre_finite_mod.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mod.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mod [hPre_finite_mod : Cert.Pre_finite_mod.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mod.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_mod [hKernel4Ideal : Cert.Kernel4Ideal.Facts] [hPre_finite_mod : Cert.Pre_finite_mod.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mod m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_mod [hReference4Ideal : Cert.Reference4Ideal.Facts] [hPre_finite_mod : Cert.Pre_finite_mod.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mod m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)) (v5 : (c : Dev Cert.Kernel3Ideal.nD) → Buf (Elt Ideal) ((c.tc : Thread Cert.Kernel3Ideal.nD Cert.Kernel3Ideal.τ).loc Cert.Kernel3Ideal.main_v8_5)) (v6 : (c : Dev Cert.Kernel3Ideal.nD) → Buf (Elt Ideal) ((c.tc : Thread Cert.Kernel3Ideal.nD Cert.Kernel3Ideal.τ).loc Cert.Kernel3Ideal.main_v8_6)) (v7 : (c : Dev Cert.Kernel3Ideal.nD) → Buf (Elt Ideal) ((c.tc : Thread Cert.Kernel3Ideal.nD Cert.Kernel3Ideal.τ).loc Cert.Kernel3Ideal.main_v8_7)) (v8 : (c : Dev Cert.Kernel3Ideal.nD) → Buf (Elt Ideal) ((c.tc : Thread Cert.Kernel3Ideal.nD Cert.Kernel3Ideal.τ).loc Cert.Kernel3Ideal.main_v8_8)) (v9 : (c : Dev Cert.Kernel3Ideal.nD) → Buf (Elt Ideal) ((c.tc : Thread Cert.Kernel3Ideal.nD Cert.Kernel3Ideal.τ).loc Cert.Kernel3Ideal.main_v8_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_v8_5) = v5 c
          ∧ r.2.mem ((c.tc : Thread Cert.Kernel3Ideal.nD Cert.Kernel3Ideal.τ).loc Cert.Kernel3Ideal.main_v8_6) = v6 c
          ∧ r.2.mem ((c.tc : Thread Cert.Kernel3Ideal.nD Cert.Kernel3Ideal.τ).loc Cert.Kernel3Ideal.main_v8_7) = v7 c
          ∧ r.2.mem ((c.tc : Thread Cert.Kernel3Ideal.nD Cert.Kernel3Ideal.τ).loc Cert.Kernel3Ideal.main_v8_8) = v8 c
          ∧ r.2.mem ((c.tc : Thread Cert.Kernel3Ideal.nD Cert.Kernel3Ideal.τ).loc Cert.Kernel3Ideal.main_v8_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_v38) = v3 c
          ∧ r.2.mem ((c.tc : Thread Cert.Reference3Ideal.nD Cert.Reference3Ideal.τ).loc Cert.Reference3Ideal.main_v39) = v4 c
          ∧ r.2.mem ((c.tc : Thread Cert.Reference3Ideal.nD Cert.Reference3Ideal.τ).loc Cert.Reference3Ideal.main_v34) = v5 c
          ∧ r.2.mem ((c.tc : Thread Cert.Reference3Ideal.nD Cert.Reference3Ideal.τ).loc Cert.Reference3Ideal.main_v40) = v6 c
          ∧ r.2.mem ((c.tc : Thread Cert.Reference3Ideal.nD Cert.Reference3Ideal.τ).loc Cert.Reference3Ideal.main_v41) = v7 c
          ∧ r.2.mem ((c.tc : Thread Cert.Reference3Ideal.nD Cert.Reference3Ideal.τ).loc Cert.Reference3Ideal.main_v42) = v8 c
          ∧ r.2.mem ((c.tc : Thread Cert.Reference3Ideal.nD Cert.Reference3Ideal.τ).loc Cert.Reference3Ideal.main_v43) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_mod [hKernel4Ideal : Cert.Kernel4Ideal.Facts] [hReference4Ideal : Cert.Reference4Ideal.Facts] [hPre_finite_mod : Cert.Pre_finite_mod.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mod m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite : Cert.Pre_finite.Facts) (hPre_finite_mod : Cert.Pre_finite_mod.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_mod (hKernel4Ideal := hKernel4Ideal) (hPre_finite_mod := hPre_finite_mod)
    ∧ quiescent_Reference4Ideal (hReference4Ideal := hReference4Ideal)
    ∧ quiescent_Reference4Ideal_pre_finite_mod (hReference4Ideal := hReference4Ideal) (hPre_finite_mod := hPre_finite_mod)
    ∧ quiescent_Kernel5 (hKernel5 := hKernel5)
    ∧ quiescent_Kernel5Ideal (hKernel5Ideal := hKernel5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_mod (hKernel4Ideal := hKernel4Ideal) (hReference4Ideal := hReference4Ideal) (hPre_finite_mod := hPre_finite_mod)
    ∧ preserves_Kernel5_Kernel5Ideal
-- ==== Pre_finite.lean ====
abbrev S4x8192x2048 : Shape := ⟨3, ![4, 8192, 2048]⟩
abbrev S4x6x2048 : Shape := ⟨3, ![4, 6, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S4x6x2048 : S_.BroadcastsInDim S4x6x2048 (![] : Fin 0 → Fin S4x6x2048.rank)
  reducesTo_S4x6x2048_S_d0_1_2 : S4x6x2048.ReducesTo [0, 1, 2] S_
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg6 : FVec F S5632x2048 .bf16) (main_v15 : IVec S_ 1) (main_v17 : FVec F S2048x5632 .f32) : IVec S_ 1 :=
  let main_cst_4 : FVec F S_ .f32 := constant S_ .f32 0x7F800000#32
  let main_v18 : FVec F S2048x5632 .f32 := broadcastInDim S2048x5632 ![] bcast_S_S2048x5632 main_cst_4
  let main_v19 : IVec S2048x5632 1 := cmpf .olt main_v17 main_v18
  let main_c_5 : IVec S_ 1 := constantI S_ 1 1#1
  let main_v20 : IVec S_ 1 := (fun x v => Host.reduce IntOp.andi x v reducesTo_S2048x5632_S_d0_1 h_S_) main_v19 main_c_5
  let main_v21 : IVec S_ 1 := andi main_v15 main_v20
  let main_v22 : FVec F S5632x2048 .f32 := (extf .f32 · bitsLt_bf16_f32) main_arg6
  let main_v23 : FVec F S5632x2048 .f32 := Host.absf main_v22
  let main_cst_6 : FVec F S_ .f32 := constant S_ .f32 0x7F800000#32
  let main_v24 : FVec F S5632x2048 .f32 := broadcastInDim S5632x2048 ![] bcast_S_S5632x2048 main_cst_6
  let main_v25 : IVec S5632x2048 1 := cmpf .olt main_v23 main_v24
  let main_c_7 : IVec S_ 1 := constantI S_ 1 1#1
  let main_v26 : IVec S_ 1 := (fun x v => Host.reduce IntOp.andi x v reducesTo_S5632x2048_S_d0_1 h_S_) main_v25 main_c_7
  let main_v27 : IVec S_ 1 := andi main_v21 main_v26
  main_v27

def fn {F : FTy → Type} [FloatOps F] (main_arg0 : FVec F S4x8192x2048 .bf16) (main_arg1 : FVec F S4x8192x2048 .f32) (main_arg2 : FVec F S4x6x2048 .f32) (main_arg3 : FVec F S2048 .f32) (main_arg4 : FVec F S2048x5632 .bf16) (main_arg5 : FVec F S2048x5632 .bf16) (main_arg6 : FVec F S5632x2048 .bf16) : IVec S_ 1 :=
  let main_v0 : FVec F S4x8192x2048 .f32 := (extf .f32 · bitsLt_bf16_f32) main_arg0
  let main_v1 : FVec F S4x8192x2048 .f32 := Host.absf main_v0
  let main_cst : FVec F S_ .f32 := constant S_ .f32 0x7F800000#32
  let main_v2 : FVec F S4x8192x2048 .f32 := broadcastInDim S4x8192x2048 ![] bcast_S_S4x8192x2048 main_cst
  let main_v3 : IVec S4x8192x2048 1 := cmpf .olt main_v1 main_v2
  let main_c : IVec S_ 1 := constantI S_ 1 1#1
  let main_v4 : IVec S_ 1 := (fun x v => Host.reduce IntOp.andi x v reducesTo_S4x8192x2048_S_d0_1_2 h_S_) main_v3 main_c
  let main_v5 : FVec F S4x6x2048 .f32 := Host.absf main_arg2
  let main_cst_0 : FVec F S_ .f32 := constant S_ .f32 0x7F800000#32
  let main_v6 : FVec F S4x6x2048 .f32 := broadcastInDim S4x6x2048 ![] bcast_S_S4x6x2048 main_cst_0
  let main_v7 : IVec S4x6x2048 1 := cmpf .olt main_v5 main_v6
  let main_c_1 : IVec S_ 1 := constantI S_ 1 1#1
  let main_v8 : IVec S_ 1 := (fun x v => Host.reduce IntOp.andi x v reducesTo_S4x6x2048_S_d0_1_2 h_S_) main_v7 main_c_1
  let main_v9 : IVec S_ 1 := andi main_v4 main_v8
  let main_v10 : FVec F S2048x5632 .f32 := (extf .f32 · bitsLt_bf16_f32) main_arg4
  let main_v11 : FVec F S2048x5632 .f32 := Host.absf main_v10
  let main_cst_2 : FVec F S_ .f32 := constant S_ .f32 0x7F800000#32
  let main_v12 : FVec F S2048x5632 .f32 := broadcastInDim S2048x5632 ![] bcast_S_S2048x5632 main_cst_2
  let main_v13 : IVec S2048x5632 1 := cmpf .olt main_v11 main_v12
  let main_c_3 : IVec S_ 1 := constantI S_ 1 1#1
  let main_v14 : IVec S_ 1 := (fun x v => Host.reduce IntOp.andi x v reducesTo_S2048x5632_S_d0_1 h_S_) main_v13 main_c_3
  let main_v15 : IVec S_ 1 := andi main_v9 main_v14
  let main_v16 : FVec F S2048x5632 .f32 := (extf .f32 · bitsLt_bf16_f32) main_arg5
  let main_v17 : FVec F S2048x5632 .f32 := Host.absf main_v16
  fn_part1 (F := F) main_arg6 main_v15 main_v17
-- ==== Pre_finite_mod.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn {F : FTy → Type} [FloatOps F] (main_arg0 : FVec F S8x2048 .f32) (main_arg1 : FVec F S2048x12288 .f32) (main_arg2 : FVec F S12288 .f32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  main_v3
-- ==== Kernel.lean ====
abbrev S4x8192x2048 : Shape := ⟨3, ![4, 8192, 2048]⟩
abbrev S4x6x2048 : Shape := ⟨3, ![4, 6, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1x1024x2048 : Shape := ⟨3, ![1, 1024, 2048]⟩
abbrev S1x6x2048 : Shape := ⟨3, ![1, 6, 2048]⟩
abbrev S2048x512 : Shape := ⟨2, ![2048, 512]⟩
abbrev S512x2048 : Shape := ⟨2, ![512, 2048]⟩
abbrev S1024x2048 : Shape := ⟨2, ![1024, 2048]⟩
abbrev S1024x512 : Shape := ⟨2, ![1024, 512]⟩
abbrev S1x1024x512 : Shape := ⟨3, ![1, 1024, 512]⟩
abbrev S1x1x512 : Shape := ⟨3, ![1, 1, 512]⟩
abbrev S1x512 : Shape := ⟨2, ![1, 512]⟩
abbrev S512x512 : Shape := ⟨2, ![512, 512]⟩
abbrev S1024 : Shape := ⟨1, ![1024]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x2048, .f32⟩
  | .hbm, ⟨2, _⟩ => ⟨S4x6x2048, .f32⟩
  | .hbm, ⟨3, _⟩ => ⟨S2048, .f32⟩
  | .hbm, ⟨4, _⟩ => ⟨S2048x5632, .bf16⟩
  | .hbm, ⟨5, _⟩ => ⟨S2048x5632, .bf16⟩
  | .hbm, ⟨6, _⟩ => ⟨S5632x2048, .bf16⟩
  | .hbm, ⟨7, _⟩ => ⟨S1x2048, .f32⟩
  | .hbm, ⟨8, _⟩ => ⟨S4x8192x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S1x1024x2048, .f32⟩
  | .local _ .vmem, ⟨14, _⟩ => ⟨S1x1024x2048, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 8, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .sgt arg2 c0_i32
  let c10_i32 : BitVec 32 := 10#32
  let v1 : BitVec 1 := Scalar.cmpi .slt arg2 c10_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg2 : BitVec 32 := BitVec.ofNat 32 (i 2).val
  let c0_i32_1 : BitVec 32 := 0#32
  let v5 : BitVec 1 := Scalar.cmpi .eq arg2 c0_i32_1
  let v6 : BitVec 32 := Scalar.extui v5
  let c0_i32_2 : BitVec 32 := 0#32
  let v7 : BitVec 1 := Scalar.cmpi .ne v6 c0_i32_2
  v7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S4x8192x2048 : Shape := ⟨3, ![4, 8192, 2048]⟩
abbrev S4x6x2048 : Shape := ⟨3, ![4, 6, 2048]⟩
abbrev S2048 : Shape := ⟨1, ![2048]⟩
abbrev S2048x5632 : Shape := ⟨2, ![2048, 5632]⟩
abbrev S5632x2048 : Shape := ⟨2, ![5632, 2048]⟩
abbrev S4x1x2048 : Shape := ⟨3, ![4, 1, 2048]⟩
abbrev S4x2048 : Shape := ⟨2, ![4, 2048]⟩
abbrev S4x8192x5632 : Shape := ⟨3, ![4, 8192, 5632]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x2048, .f32⟩
  | .hbm, ⟨2, _⟩ => ⟨S4x6x2048, .f32⟩
  | .hbm, ⟨3, _⟩ => ⟨S2048, .f32⟩
  | .hbm, ⟨4, _⟩ => ⟨S2048x5632, .bf16⟩
  | .hbm, ⟨5, _⟩ => ⟨S2048x5632, .bf16⟩
  | .hbm, ⟨6, _⟩ => ⟨S5632x2048, .bf16⟩
  | .hbm, ⟨7, _⟩ => ⟨S4x8192x2048, .f32⟩
  | .hbm, ⟨8, _⟩ => ⟨S4x1x2048, .f32⟩
  | .hbm, ⟨9, _⟩ => ⟨S4x2048, .f32⟩
  | .hbm, ⟨10, _⟩ => ⟨S4x1x2048, .f32⟩
  | .hbm, ⟨11, _⟩ => ⟨S2048x5632, .f32⟩
  | .hbm, ⟨12, _⟩ => ⟨S4x8192x5632, .f32⟩
  | .hbm, ⟨13, _⟩ => ⟨S4x8192x5632, .f32⟩
  | .hbm, ⟨14, _⟩ => ⟨S4x8192x5632, .f32⟩
  | .hbm, ⟨15, _⟩ => ⟨S_, .f32⟩
  | .hbm, ⟨16, _⟩ => ⟨S4x8192x5632, .f32⟩
  | .hbm, ⟨17, _⟩ => ⟨S4x8192x5632, .f32⟩
  | .hbm, ⟨18, _⟩ => ⟨S_, .f32⟩
  | .hbm, ⟨19, _⟩ => ⟨S4x8192x5632, .f32⟩
  | .hbm, ⟨20, _⟩ => ⟨S4x8192x5632, .f32⟩
  | .hbm, ⟨21, _⟩ => ⟨S4x8192x5632, .f32⟩
  | .hbm, ⟨22, _⟩ => ⟨S2048x5632, .f32⟩
  | .hbm, ⟨23, _⟩ => ⟨S4x8192x5632, .f32⟩
  | .hbm, ⟨24, _⟩ => ⟨S4x8192x5632, .f32⟩
  | .hbm, ⟨25, _⟩ => ⟨S5632x2048, .f32⟩
  | .hbm, ⟨26, _⟩ => ⟨S4x8192x2048, .f32⟩
  | .hbm, ⟨27, _⟩ => ⟨S4x8192x2048, .f32⟩
  | .hbm, ⟨28, _⟩ => ⟨S4x8192x2048, .f32⟩
  | .hbm, ⟨29, _⟩ => ⟨S4x8192x2048, .f32⟩
  | .hbm, ⟨30, _⟩ => ⟨S4x8192x2048, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S_, .f32⟩
  | .hbm, ⟨38, _⟩ => ⟨S4x8192x1, .f32⟩
  | .hbm, ⟨39, _⟩ => ⟨S4x8192x1, .f32⟩
  | .hbm, ⟨40, _⟩ => ⟨S4x8192x1, .f32⟩
  | .hbm, ⟨41, _⟩ => ⟨S4x8192x2048, .f32⟩
  | .hbm, ⟨42, _⟩ => ⟨S4x8192x2048, .f32⟩
  | .hbm, ⟨43, _⟩ => ⟨S1x1x2048, .f32⟩
  | .hbm, ⟨44, _⟩ => ⟨S4x8192x2048, .f32⟩
  | .hbm, ⟨45, _⟩ => ⟨S4x8192x2048, .f32⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x2048 : Shape := ⟨3, ![4, 8192, 2048]⟩
abbrev S4x6x2048 : Shape := ⟨3, ![4, 6, 2048]⟩
abbrev S2048 : Shape := ⟨1, ![2048]⟩
abbrev S2048x2048 : Shape := ⟨2, ![2048, 2048]⟩
abbrev S1x2048 : Shape := ⟨2, ![1, 2048]⟩
abbrev S1x512x1024 : Shape := ⟨3, ![1, 512, 1024]⟩
abbrev S1x512x2048 : Shape := ⟨3, ![1, 512, 2048]⟩
abbrev S1x6x2048 : Shape := ⟨3, ![1, 6, 2048]⟩
abbrev S1x256x1024 : Shape := ⟨3, ![1, 256, 1024]⟩
abbrev S256x1024 : Shape := ⟨2, ![256, 1024]⟩
abbrev S1024x2048 : Shape := ⟨2, ![1024, 2048]⟩
abbrev S256x2048 : Shape := ⟨2, ![256, 2048]⟩
abbrev S1x256x2048 : Shape := ⟨3, ![1, 256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x2048, .f32⟩
  | .hbm, ⟨3, _⟩ => ⟨S4x6x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S4x8192x2048, .f32⟩
  | .hbm, ⟨8, _⟩ => ⟨S4x8192x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x2048, .f32⟩
  | .local _ .vmem, ⟨9, _⟩ => ⟨S2048x2048, .bf16⟩
  | .local _ .vmem, ⟨10, _⟩ => ⟨S1x512x2048, .f32⟩
  | .local _ .vmem, ⟨11, _⟩ => ⟨S1x512x2048, .f32⟩
  | .local _ .vmem, ⟨12, _⟩ => ⟨S1x512x2048, .bf16⟩
  | .local _ .vmem, ⟨13, _⟩ => ⟨S1x512x2048, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x8192x1024 : Shape := ⟨3, ![4, 8192, 1024]⟩
abbrev S4x8192x2048 : Shape := ⟨3, ![4, 8192, 2048]⟩
abbrev S4x6x2048 : Shape := ⟨3, ![4, 6, 2048]⟩
abbrev S2048 : Shape := ⟨1, ![2048]⟩
abbrev S2048x2048 : Shape := ⟨2, ![2048, 2048]⟩
abbrev S4x1x2048 : Shape := ⟨3, ![4, 1, 2048]⟩
abbrev S4x2048 : Shape := ⟨2, ![4, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x2048, .f32⟩
  | .hbm, ⟨3, _⟩ => ⟨S4x6x2048, .f32⟩
  | .hbm, ⟨4, _⟩ => ⟨S2048, .f32⟩
  | .hbm, ⟨5, _⟩ => ⟨S2048x2048, .bf16⟩
  | .hbm, ⟨6, _⟩ => ⟨S4x1x2048, .f32⟩
  | .hbm, ⟨7, _⟩ => ⟨S4x2048, .f32⟩
  | .hbm, ⟨8, _⟩ => ⟨S4x1x2048, .f32⟩
  | .hbm, ⟨9, _⟩ => ⟨S4x1x2048, .f32⟩
  | .hbm, ⟨10, _⟩ => ⟨S4x2048, .f32⟩
  | .hbm, ⟨11, _⟩ => ⟨S4x1x2048, .f32⟩
  | .hbm, ⟨12, _⟩ => ⟨S4x1x2048, .f32⟩
  | .hbm, ⟨13, _⟩ => ⟨S4x2048, .f32⟩
  | .hbm, ⟨14, _⟩ => ⟨S4x1x2048, .f32⟩
  | .hbm, ⟨15, _⟩ => ⟨S4x8192x1024, .f32⟩
  | .hbm, ⟨16, _⟩ => ⟨S4x8192x1024, .f32⟩
  | .hbm, ⟨17, _⟩ => ⟨S4x8192x2048, .f32⟩
  | .hbm, ⟨18, _⟩ => ⟨S2048x2048, .f32⟩
  | .hbm, ⟨19, _⟩ => ⟨S4x8192x2048, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x2048, .f32⟩
  | .hbm, ⟨35, _⟩ => ⟨S4x8192x2048, .f32⟩
  | .hbm, ⟨36, _⟩ => ⟨S1x1x2048, .f32⟩
  | .hbm, ⟨37, _⟩ => ⟨S4x8192x2048, .f32⟩
  | .hbm, ⟨38, _⟩ => ⟨S4x8192x2048, .f32⟩
  | .hbm, ⟨39, _⟩ => ⟨S_, .f32⟩
  | .hbm, ⟨40, _⟩ => ⟨S4x1x2048, .f32⟩
  | .hbm, ⟨41, _⟩ => ⟨S4x1x2048, .f32⟩
  | .hbm, ⟨42, _⟩ => ⟨S4x8192x2048, .f32⟩
  | .hbm, ⟨43, _⟩ => ⟨S4x8192x2048, .f32⟩
  | .hbm, ⟨44, _⟩ => ⟨S4x8192x2048, .f32⟩
  | .hbm, ⟨45, _⟩ => ⟨S4x8192x2048, .f32⟩
  | .hbm, ⟨46, _⟩ => ⟨S4x8192x2048, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel3.lean ====
abbrev S4x8192x2048 : Shape := ⟨3, ![4, 8192, 2048]⟩
abbrev S4x6x2048 : Shape := ⟨3, ![4, 6, 2048]⟩
abbrev S2048 : Shape := ⟨1, ![2048]⟩
abbrev S2048x5648 : Shape := ⟨2, ![2048, 5648]⟩
abbrev S2048x2048 : Shape := ⟨2, ![2048, 2048]⟩
abbrev S2048x5632 : Shape := ⟨2, ![2048, 5632]⟩
abbrev S5632x2048 : Shape := ⟨2, ![5632, 2048]⟩
abbrev S5648 : Shape := ⟨1, ![5648]⟩
abbrev S5648x2048 : Shape := ⟨2, ![5648, 2048]⟩
abbrev S5648x1 : Shape := ⟨2, ![5648, 1]⟩
abbrev S16x2048 : Shape := ⟨2, ![16, 2048]⟩
abbrev S_ : Shape := ⟨0, ![]⟩
abbrev S128x2048 : Shape := ⟨2, ![128, 2048]⟩
abbrev S1x2048 : Shape := ⟨2, ![1, 2048]⟩
abbrev S4x8192x1024 : Shape := ⟨3, ![4, 8192, 1024]⟩
abbrev S4x8192x1536 : Shape := ⟨3, ![4, 8192, 1536]⟩
abbrev S4x8192x128 : Shape := ⟨3, ![4, 8192, 128]⟩
abbrev S1x512x2048 : Shape := ⟨3, ![1, 512, 2048]⟩
abbrev S1x6x2048 : Shape := ⟨3, ![1, 6, 2048]⟩
abbrev S32x2048 : Shape := ⟨2, ![32, 2048]⟩
abbrev S32x5632 : Shape := ⟨2, ![32, 5632]⟩
abbrev S1x512x1024 : Shape := ⟨3, ![1, 512, 1024]⟩
abbrev S1x512x1536 : Shape := ⟨3, ![1, 512, 1536]⟩
abbrev S1x512x128 : Shape := ⟨3, ![1, 512, 128]⟩
abbrev S512x2048 : Shape := ⟨2, ![512, 2048]⟩
abbrev S512 : Shape := ⟨1, ![512]⟩
abbrev S512x1 : Shape := ⟨2, ![512, 1]⟩
abbrev S1x1x2048 : Shape := ⟨3, ![1, 1, 2048]⟩
abbrev S512x512 : Shape := ⟨2, ![512, 512]⟩
abbrev S1x512x512 : Shape := ⟨3, ![1, 512, 512]⟩
abbrev S512x128 : Shape := ⟨2, ![512, 128]⟩

abbrev nBuf : Space → Nat
  | .hbm => 29
  | .vmem => 36
  | .smem => 0
  | _ => 0

abbrev bufTy : (tb : Table) → Fin (tcTables nBuf tb) → BufTy
  | .hbm, ⟨0, _⟩ => ⟨S4x8192x2048, .f32⟩
  | .hbm, ⟨1, _⟩ => ⟨S4x6x2048, .f32⟩
  | .hbm, ⟨2, _⟩ => ⟨S2048, .f32⟩
  | .hbm, ⟨3, _⟩ => ⟨S2048x5648, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S5648, .f32⟩
  | .hbm, ⟨9, _⟩ => ⟨S5648x2048, .f32⟩
  | .hbm, ⟨10, _⟩ => ⟨S5648x1, .f32⟩
  | .hbm, ⟨11, _⟩ => ⟨S5648x2048, .f32⟩
  | .hbm, ⟨12, _⟩ => ⟨S5648x2048, .f32⟩
  | .hbm, ⟨13, _⟩ => ⟨S5648x2048, .bf16⟩
  | .hbm, ⟨14, _⟩ => ⟨S16x2048, .bf16⟩
  | .hbm, ⟨15, _⟩ => ⟨S_, .i32⟩
  | .hbm, ⟨16, _⟩ => ⟨S_, .bf16⟩
  | .hbm, ⟨17, _⟩ => ⟨S128x2048, .bf16⟩
  | .hbm, ⟨18, _⟩ => ⟨S1x2048, .f32⟩
  | .hbm, ⟨19, _⟩ => ⟨S4x8192x1024, .bf16⟩
  | .hbm, ⟨20, _⟩ => ⟨S4x8192x1024, .bf16⟩
  | .hbm, ⟨21, _⟩ => ⟨S4x8192x1024, .bf16⟩
  | .hbm, ⟨22, _⟩ => ⟨S4x8192x1024, .bf16⟩
  | .hbm, ⟨23, _⟩ => ⟨S4x8192x1536, .bf16⟩
  | .hbm, ⟨24, _⟩ => ⟨S4x8192x128, .f32⟩
  | .hbm, ⟨25, _⟩ => ⟨S2048x2048, .bf16⟩
  | .hbm, ⟨26, _⟩ => ⟨S2048x5632, .bf16⟩
  | .hbm, ⟨27, _⟩ => ⟨S2048x5632, .bf16⟩
  | .hbm, ⟨28, _⟩ => ⟨S5632x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S5648x2048, .bf16⟩
  | .local _ .vmem, ⟨6, _⟩ => ⟨S128x2048, .bf16⟩
  | .local _ .vmem, ⟨7, _⟩ => ⟨S32x2048, .f32⟩
  | .local _ .vmem, ⟨8, _⟩ => ⟨S32x2048, .f32⟩
  | .local _ .vmem, ⟨9, _⟩ => ⟨S32x5632, .f32⟩
  | .local _ .vmem, ⟨10, _⟩ => ⟨S32x5632, .f32⟩
  | .local _ .vmem, ⟨11, _⟩ => ⟨S32x5632, .f32⟩
  | .local _ .vmem, ⟨12, _⟩ => ⟨S32x5632, .f32⟩
  | .local _ .vmem, ⟨13, _⟩ => ⟨S128x2048, .f32⟩
  | .local _ .vmem, ⟨14, _⟩ => ⟨S128x2048, .f32⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1536, .bf16⟩
  | .local _ .vmem, ⟨24, _⟩ => ⟨S1x512x1536, .bf16⟩
  | .local _ .vmem, ⟨25, _⟩ => ⟨S1x512x128, .f32⟩
  | .local _ .vmem, ⟨26, _⟩ => ⟨S1x512x128, .f32⟩
  | .local _ .vmem, ⟨27, _⟩ => ⟨S32x2048, .bf16⟩
  | .local _ .vmem, ⟨28, _⟩ => ⟨S32x2048, .bf16⟩
  | .local _ .vmem, ⟨29, _⟩ => ⟨S32x5632, .bf16⟩
  | .local _ .vmem, ⟨30, _⟩ => ⟨S32x5632, .bf16⟩
  | .local _ .vmem, ⟨31, _⟩ => ⟨S32x5632, .bf16⟩
  | .local _ .vmem, ⟨32, _⟩ => ⟨S32x5632, .bf16⟩
  | .local _ .vmem, ⟨33, _⟩ => ⟨S128x2048, .bf16⟩
  | .local _ .vmem, ⟨34, _⟩ => ⟨S128x2048, .bf16⟩
  | .local _ .vmem, ⟨35, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev main_v8_7 : Ref sig .tc := ⟨.hbm, 26, rfl⟩
abbrev main_v8_8 : Ref sig .tc := ⟨.hbm, 27, rfl⟩
abbrev main_v8_9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S5648x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S4x8192x2048 : Shape := ⟨3, ![4, 8192, 2048]⟩
abbrev S4x6x2048 : Shape := ⟨3, ![4, 6, 2048]⟩
abbrev S2048 : Shape := ⟨1, ![2048]⟩
abbrev S2048x5648 : Shape := ⟨2, ![2048, 5648]⟩
abbrev S2048x2048 : Shape := ⟨2, ![2048, 2048]⟩
abbrev S2048x5632 : Shape := ⟨2, ![2048, 5632]⟩
abbrev S5632x2048 : Shape := ⟨2, ![5632, 2048]⟩
abbrev S4x1x2048 : Shape := ⟨3, ![4, 1, 2048]⟩
abbrev S4x2048 : Shape := ⟨2, ![4, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x5648 : Shape := ⟨3, ![4, 8192, 5648]⟩
abbrev S4x8192x1024 : Shape := ⟨3, ![4, 8192, 1024]⟩
abbrev S4x8192x1536 : Shape := ⟨3, ![4, 8192, 1536]⟩
abbrev S4x8192x16 : Shape := ⟨3, ![4, 8192, 16]⟩
abbrev S4x8192x128 : Shape := ⟨3, ![4, 8192, 128]⟩

abbrev nBuf : Space → Nat
  | .hbm => 59
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x6x2048, .f32⟩
  | .hbm, ⟨2, _⟩ => ⟨S2048, .f32⟩
  | .hbm, ⟨3, _⟩ => ⟨S2048x5648, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S4x1x2048, .f32⟩
  | .hbm, ⟨9, _⟩ => ⟨S4x2048, .f32⟩
  | .hbm, ⟨10, _⟩ => ⟨S4x1x2048, .f32⟩
  | .hbm, ⟨11, _⟩ => ⟨S4x1x2048, .f32⟩
  | .hbm, ⟨12, _⟩ => ⟨S4x2048, .f32⟩
  | .hbm, ⟨13, _⟩ => ⟨S4x1x2048, .f32⟩
  | .hbm, ⟨14, _⟩ => ⟨S4x8192x2048, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x2048, .f32⟩
  | .hbm, ⟨26, _⟩ => ⟨S4x8192x2048, .f32⟩
  | .hbm, ⟨27, _⟩ => ⟨S1x1x2048, .f32⟩
  | .hbm, ⟨28, _⟩ => ⟨S4x8192x2048, .f32⟩
  | .hbm, ⟨29, _⟩ => ⟨S4x8192x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x8192x2048, .f32⟩
  | .hbm, ⟨34, _⟩ => ⟨S4x8192x2048, .f32⟩
  | .hbm, ⟨35, _⟩ => ⟨S4x8192x2048, .f32⟩
  | .hbm, ⟨36, _⟩ => ⟨S4x8192x2048, .f32⟩
  | .hbm, ⟨37, _⟩ => ⟨S4x8192x5648, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1536, .f32⟩
  | .hbm, ⟨43, _⟩ => ⟨S4x8192x16, .f32⟩
  | .hbm, ⟨44, _⟩ => ⟨S_, .f32⟩
  | .hbm, ⟨45, _⟩ => ⟨S4x8192x1024, .f32⟩
  | .hbm, ⟨46, _⟩ => ⟨S4x8192x1024, .f32⟩
  | .hbm, ⟨47, _⟩ => ⟨S_, .i32⟩
  | .hbm, ⟨48, _⟩ => ⟨S_, .f32⟩
  | .hbm, ⟨49, _⟩ => ⟨S4x8192x128, .f32⟩
  | .hbm, ⟨50, _⟩ => ⟨S4x8192x1024, .bf16⟩
  | .hbm, ⟨51, _⟩ => ⟨S4x8192x1024, .bf16⟩
  | .hbm, ⟨52, _⟩ => ⟨S4x8192x1024, .bf16⟩
  | .hbm, ⟨53, _⟩ => ⟨S4x8192x1024, .bf16⟩
  | .hbm, ⟨54, _⟩ => ⟨S4x8192x1536, .bf16⟩
  | .hbm, ⟨55, _⟩ => ⟨S2048x2048, .bf16⟩
  | .hbm, ⟨56, _⟩ => ⟨S2048x5632, .bf16⟩
  | .hbm, ⟨57, _⟩ => ⟨S2048x5632, .bf16⟩
  | .hbm, ⟨58, _⟩ => ⟨S5632x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel4.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S4x8192x1024 : Shape := ⟨3, ![4, 8192, 1024]⟩
abbrev S16x320 : Shape := ⟨2, ![16, 320]⟩
abbrev S1024 : Shape := ⟨1, ![1024]⟩
abbrev S16x1 : Shape := ⟨2, ![16, 1]⟩
abbrev S16x319 : Shape := ⟨2, ![16, 319]⟩
abbrev S16x639 : Shape := ⟨2, ![16, 639]⟩
abbrev S_ : Shape := ⟨0, ![]⟩
abbrev S16x640 : Shape := ⟨2, ![16, 640]⟩
abbrev S16x1x640 : Shape := ⟨3, ![16, 1, 640]⟩
abbrev S16x64x640 : Shape := ⟨3, ![16, 64, 640]⟩
abbrev S16x40960 : Shape := ⟨2, ![16, 40960]⟩
abbrev S16x40896 : Shape := ⟨2, ![16, 40896]⟩
abbrev S16x64x639 : Shape := ⟨3, ![16, 64, 639]⟩
abbrev S16x64x576 : Shape := ⟨3, ![16, 64, 576]⟩
abbrev S4x4x64x576 : Shape := ⟨4, ![4, 4, 64, 576]⟩
abbrev S4x576x4x64 : Shape := ⟨4, ![4, 576, 4, 64]⟩
abbrev S4x576x256 : Shape := ⟨3, ![4, 576, 256]⟩
abbrev S1x1024 : Shape := ⟨2, ![1, 1024]⟩
abbrev S1x1024x1024 : Shape := ⟨3, ![1, 1024, 1024]⟩
abbrev S1x512x1024 : Shape := ⟨3, ![1, 512, 1024]⟩
abbrev S1536x1024 : Shape := ⟨2, ![1536, 1024]⟩
abbrev S1600x1024 : Shape := ⟨2, ![1600, 1024]⟩
abbrev S2x4x576x256 : Shape := ⟨4, ![2, 4, 576, 256]⟩
abbrev S2x4x256x640 : Shape := ⟨4, ![2, 4, 256, 640]⟩
abbrev S2x4x8x256 : Shape := ⟨4, ![2, 4, 8, 256]⟩
abbrev S2x64x1024 : Shape := ⟨3, ![2, 64, 1024]⟩
abbrev S512x1024 : Shape := ⟨2, ![512, 1024]⟩
abbrev S1024x1024 : Shape := ⟨2, ![1024, 1024]⟩
abbrev S64x1024 : Shape := ⟨2, ![64, 1024]⟩
abbrev S256x256 : Shape := ⟨2, ![256, 256]⟩
abbrev S64x256 : Shape := ⟨2, ![64, 256]⟩
abbrev S1x64x256 : Shape := ⟨3, ![1, 64, 256]⟩
abbrev S576x256 : Shape := ⟨2, ![576, 256]⟩
abbrev S1x576x256 : Shape := ⟨3, ![1, 576, 256]⟩
abbrev S1x1x576x256 : Shape := ⟨4, ![1, 1, 576, 256]⟩
abbrev S256 : Shape := ⟨1, ![256]⟩
abbrev S1x256 : Shape := ⟨2, ![1, 256]⟩
abbrev S8x256 : Shape := ⟨2, ![8, 256]⟩
abbrev S1x1x8x256 : Shape := ⟨4, ![1, 1, 8, 256]⟩
abbrev S1x1x64x256 : Shape := ⟨4, ![1, 1, 64, 256]⟩
abbrev S1x1x1x256 : Shape := ⟨4, ![1, 1, 1, 256]⟩
abbrev S640x256 : Shape := ⟨2, ![640, 256]⟩
abbrev S128x256 : Shape := ⟨2, ![128, 256]⟩
abbrev S256x128 : Shape := ⟨2, ![256, 128]⟩
abbrev S1x1x256x128 : Shape := ⟨4, ![1, 1, 256, 128]⟩
abbrev S1x1x256x640 : Shape := ⟨4, ![1, 1, 256, 640]⟩
abbrev S256x640 : Shape := ⟨2, ![256, 640]⟩
abbrev S1x128 : Shape := ⟨2, ![1, 128]⟩
abbrev S128x128 : Shape := ⟨2, ![128, 128]⟩
abbrev S64x128 : Shape := ⟨2, ![64, 128]⟩
abbrev S1x64x1024 : Shape := ⟨3, ![1, 64, 1024]⟩
abbrev S64 : Shape := ⟨1, ![64]⟩
abbrev S64x1 : Shape := ⟨2, ![64, 1]⟩

abbrev nBuf : Space → Nat
  | .hbm => 26
  | .vmem => 22
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x1024, .bf16⟩
  | .hbm, ⟨3, _⟩ => ⟨S16x320, .f32⟩
  | .hbm, ⟨4, _⟩ => ⟨S1024, .f32⟩
  | .hbm, ⟨5, _⟩ => ⟨S16x1, .f32⟩
  | .hbm, ⟨6, _⟩ => ⟨S16x319, .f32⟩
  | .hbm, ⟨7, _⟩ => ⟨S16x320, .f32⟩
  | .hbm, ⟨8, _⟩ => ⟨S16x639, .f32⟩
  | .hbm, ⟨9, _⟩ => ⟨S_, .f32⟩
  | .hbm, ⟨10, _⟩ => ⟨S16x639, .f32⟩
  | .hbm, ⟨11, _⟩ => ⟨S16x639, .f32⟩
  | .hbm, ⟨12, _⟩ => ⟨S_, .i32⟩
  | .hbm, ⟨13, _⟩ => ⟨S_, .f32⟩
  | .hbm, ⟨14, _⟩ => ⟨S16x640, .f32⟩
  | .hbm, ⟨15, _⟩ => ⟨S16x1x640, .f32⟩
  | .hbm, ⟨16, _⟩ => ⟨S16x64x640, .f32⟩
  | .hbm, ⟨17, _⟩ => ⟨S16x40960, .f32⟩
  | .hbm, ⟨18, _⟩ => ⟨S16x40896, .f32⟩
  | .hbm, ⟨19, _⟩ => ⟨S16x64x639, .f32⟩
  | .hbm, ⟨20, _⟩ => ⟨S16x64x576, .f32⟩
  | .hbm, ⟨21, _⟩ => ⟨S4x4x64x576, .f32⟩
  | .hbm, ⟨22, _⟩ => ⟨S4x576x4x64, .f32⟩
  | .hbm, ⟨23, _⟩ => ⟨S4x576x256, .f32⟩
  | .hbm, ⟨24, _⟩ => ⟨S1x1024, .f32⟩
  | .hbm, ⟨25, _⟩ => ⟨S4x8192x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S4x576x256, .f32⟩
  | .local _ .vmem, ⟨11, _⟩ => ⟨S1x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1536x1024, .bf16⟩
  | .local _ .vmem, ⟨15, _⟩ => ⟨S1600x1024, .bf16⟩
  | .local _ .vmem, ⟨16, _⟩ => ⟨S2x4x576x256, .f32⟩
  | .local _ .vmem, ⟨17, _⟩ => ⟨S2x4x256x640, .bf16⟩
  | .local _ .vmem, ⟨18, _⟩ => ⟨S2x4x8x256, .f32⟩
  | .local _ .vmem, ⟨19, _⟩ => ⟨S2x4x8x256, .f32⟩
  | .local _ .vmem, ⟨20, _⟩ => ⟨S2x64x1024, .f32⟩
  | .local _ .vmem, ⟨21, _⟩ => ⟨S2x4x8x256, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_37 : BitVec 32 := 0#32
  let v100 : BitVec 1 := Scalar.cmpi .eq arg1 c0_i32_37
  let v101 : BitVec 32 := Scalar.extui v100
  let c0_i32_38 : BitVec 32 := 0#32
  let v102 : BitVec 1 := Scalar.cmpi .ne v101 c0_i32_38
  v102

@[reducible] def k0_t1_loop (i : grid0.Coords) : Scf.Loop 32 :=
  let c0_i32_115 : BitVec 32 := 0#32
  let c8_i32 : BitVec 32 := 8#32
  let arg1 : BitVec 32 := BitVec.ofNat 32 (i 1).val
  let c16_i32 : BitVec 32 := 16#32
  let v186 : BitVec 32 := Scalar.muli arg1 c16_i32
  let c0_i32_112 : BitVec 32 := 0#32
  let v187 : BitVec 32 := Scalar.addi v186 c0_i32_112
  let v188 : BitVec 32 := Scalar.subi c8_i32 v187
  let c0_i32_113 : BitVec 32 := 0#32
  let v189 : BitVec 32 := Scalar.maxsi v188 c0_i32_113
  let v190 : BitVec 32 := Scalar.subi v189 c0_i32_115
  let c1_i32_116 : BitVec 32 := 1#32
  let v192 : BitVec 32 := Scalar.divsi v190 c1_i32_116
  let v193 : BitVec 32 := Scalar.muli v192 c1_i32_116
  let v194 : BitVec 32 := Scalar.addi c0_i32_115 v193
  let c1_i32_117 : BitVec 32 := 1#32
  ⟨c0_i32_115, v194, c1_i32_117⟩
def k0_mult1 (i : grid0.Coords) (k0_t1 : Fin (k0_t1_loop i).trips) : BitVec 32 :=
  let c0_i32_115 : BitVec 32 := 0#32
  let c1_i32_117 : BitVec 32 := 1#32
  let arg18 : BitVec 32 := Scf.iv c0_i32_115 c1_i32_117 k0_t1
  let c64_i32_1428 : BitVec 32 := 64#32
  let v2099 : BitVec 32 := Scalar.muli arg18 c64_i32_1428
  v2099
def k0_off1 (i : grid0.Coords) (k0_t1 : Fin (k0_t1_loop i).trips) : Fin 4 → Nat :=
  let c0_1430 : Index := 0#32
  let c0_1431 : Index := 0#32
  let c0_i32_115 : BitVec 32 := 0#32
  let c1_i32_117 : BitVec 32 := 1#32
  let arg18 : BitVec 32 := Scf.iv c0_i32_115 c1_i32_117 k0_t1
  let c64_i32_1428 : BitVec 32 := 64#32
  let v2099 : BitVec 32 := Scalar.muli arg18 c64_i32_1428
  let v2100 : BitVec 32 := v2099
  let v2102 : Index := Scalar.indexCast v2100
  let c0_1432 : Index := 0#32
  ![0, 0, v2102.toNat, 0]
def k0_off2 (i : grid0.Coords) (k0_t1 : Fin (k0_t1_loop i).trips) : Fin 4 → Nat :=
  let c0_1434 : Index := 0#32
  let c1_1435 : Index := 1#32
  let c0_i32_115 : BitVec 32 := 0#32
  let c1_i32_117 : BitVec 32 := 1#32
  let arg18 : BitVec 32 := Scf.iv c0_i32_115 c1_i32_117 k0_t1
  let c64_i32_1428 : BitVec 32 := 64#32
  let v2099 : BitVec 32 := Scalar.muli arg18 c64_i32_1428
  let v2100 : BitVec 32 := v2099
  let v2107 : Index := Scalar.indexCast v2100
  let c0_1436 : Index := 0#32
  ![0, 1, v2107.toNat, 0]
def k0_off3 (i : grid0.Coords) (k0_t1 : Fin (k0_t1_loop i).trips) : Fin 4 → Nat :=
  let c0_1438 : Index := 0#32
  let c2_1439 : Index := 2#32
  let c0_i32_115 : BitVec 32 := 0#32
  let c1_i32_117 : BitVec 32 := 1#32
  let arg18 : BitVec 32 := Scf.iv c0_i32_115 c1_i32_117 k0_t1
  let c64_i32_1428 : BitVec 32 := 64#32
  let v2099 : BitVec 32 := Scalar.muli arg18 c64_i32_1428
  let v2100 : BitVec 32 := v2099
  let v2112 : Index := Scalar.indexCast v2100
  let c0_1440 : Index := 0#32
  ![0, 2, v2112.toNat, 0]
def k0_off4 (i : grid0.Coords) (k0_t1 : Fin (k0_t1_loop i).trips) : Fin 4 → Nat :=
  let c0_1442 : Index := 0#32
  let c3_1443 : Index := 3#32
  let c0_i32_115 : BitVec 32 := 0#32
  let c1_i32_117 : BitVec 32 := 1#32
  let arg18 : BitVec 32 := Scf.iv c0_i32_115 c1_i32_117 k0_t1
  let c64_i32_1428 : BitVec 32 := 64#32
  let v2099 : BitVec 32 := Scalar.muli arg18 c64_i32_1428
  let v2100 : BitVec 32 := v2099
  let v2117 : Index := Scalar.indexCast v2100
  let c0_1444 : Index := 0#32
  ![0, 3, v2117.toNat, 0]
@[reducible] def k0_t2_loop (i : grid0.Coords) : Scf.Loop 32 :=
  let c0_i32_115 : BitVec 32 := 0#32
  let c8_i32 : BitVec 32 := 8#32
  let arg1 : BitVec 32 := BitVec.ofNat 32 (i 1).val
  let c16_i32 : BitVec 32 := 16#32
  let v186 : BitVec 32 := Scalar.muli arg1 c16_i32
  let c0_i32_112 : BitVec 32 := 0#32
  let v187 : BitVec 32 := Scalar.addi v186 c0_i32_112
  let v188 : BitVec 32 := Scalar.subi c8_i32 v187
  let c0_i32_113 : BitVec 32 := 0#32
  let v189 : BitVec 32 := Scalar.maxsi v188 c0_i32_113
  let v190 : BitVec 32 := Scalar.subi v189 c0_i32_115
  let c1_i32_116 : BitVec 32 := 1#32
  let v192 : BitVec 32 := Scalar.divsi v190 c1_i32_116
  let v193 : BitVec 32 := Scalar.muli v192 c1_i32_116
  let v194 : BitVec 32 := Scalar.addi c0_i32_115 v193
  let v191 : BitVec 32 := Scalar.addi c0_i32_115 v190
  let c1_i32_118 : BitVec 32 := 1#32
  ⟨v194, v191, c1_i32_118⟩
def k0_mult2 (i : grid0.Coords) (k0_t2 : Fin (k0_t2_loop i).trips) : BitVec 32 :=
  let c0_i32_115 : BitVec 32 := 0#32
  let c8_i32 : BitVec 32 := 8#32
  let arg1 : BitVec 32 := BitVec.ofNat 32 (i 1).val
  let c16_i32 : BitVec 32 := 16#32
  let v186 : BitVec 32 := Scalar.muli arg1 c16_i32
  let c0_i32_112 : BitVec 32 := 0#32
  let v187 : BitVec 32 := Scalar.addi v186 c0_i32_112
  let v188 : BitVec 32 := Scalar.subi c8_i32 v187
  let c0_i32_113 : BitVec 32 := 0#32
  let v189 : BitVec 32 := Scalar.maxsi v188 c0_i32_113
  let v190 : BitVec 32 := Scalar.subi v189 c0_i32_115
  let c1_i32_116 : BitVec 32 := 1#32
  let v192 : BitVec 32 := Scalar.divsi v190 c1_i32_116
  let v193 : BitVec 32 := Scalar.muli v192 c1_i32_116
  let v194 : BitVec 32 := Scalar.addi c0_i32_115 v193
  let c1_i32_118 : BitVec 32 := 1#32
  let arg18 : BitVec 32 := Scf.iv v194 c1_i32_118 k0_t2
  let c64_i32_1428 : BitVec 32 := 64#32
  let v2099 : BitVec 32 := Scalar.muli arg18 c64_i32_1428
  v2099
def k0_off5 (i : grid0.Coords) (k0_t2 : Fin (k0_t2_loop i).trips) : Fin 4 → Nat :=
  let c0_1430 : Index := 0#32
  let c0_1431 : Index := 0#32
  let c0_i32_115 : BitVec 32 := 0#32
  let c8_i32 : BitVec 32 := 8#32
  let arg1 : BitVec 32 := BitVec.ofNat 32 (i 1).val
  let c16_i32 : BitVec 32 := 16#32
  let v186 : BitVec 32 := Scalar.muli arg1 c16_i32
  let c0_i32_112 : BitVec 32 := 0#32
  let v187 : BitVec 32 := Scalar.addi v186 c0_i32_112
  let v188 : BitVec 32 := Scalar.subi c8_i32 v187
  let c0_i32_113 : BitVec 32 := 0#32
  let v189 : BitVec 32 := Scalar.maxsi v188 c0_i32_113
  let v190 : BitVec 32 := Scalar.subi v189 c0_i32_115
  let c1_i32_116 : BitVec 32 := 1#32
  let v192 : BitVec 32 := Scalar.divsi v190 c1_i32_116
  let v193 : BitVec 32 := Scalar.muli v192 c1_i32_116
  let v194 : BitVec 32 := Scalar.addi c0_i32_115 v193
  let c1_i32_118 : BitVec 32 := 1#32
  let arg18 : BitVec 32 := Scf.iv v194 c1_i32_118 k0_t2
  let c64_i32_1428 : BitVec 32 := 64#32
  let v2099 : BitVec 32 := Scalar.muli arg18 c64_i32_1428
  let v2100 : BitVec 32 := v2099
  let v2102 : Index := Scalar.indexCast v2100
  let c0_1432 : Index := 0#32
  ![0, 0, v2102.toNat, 0]
def k0_off6 (i : grid0.Coords) (k0_t2 : Fin (k0_t2_loop i).trips) : Fin 4 → Nat :=
  let c0_1434 : Index := 0#32
  let c1_1435 : Index := 1#32
  let c0_i32_115 : BitVec 32 := 0#32
  let c8_i32 : BitVec 32 := 8#32
  let arg1 : BitVec 32 := BitVec.ofNat 32 (i 1).val
  let c16_i32 : BitVec 32 := 16#32
  let v186 : BitVec 32 := Scalar.muli arg1 c16_i32
  let c0_i32_112 : BitVec 32 := 0#32
  let v187 : BitVec 32 := Scalar.addi v186 c0_i32_112
  let v188 : BitVec 32 := Scalar.subi c8_i32 v187
  let c0_i32_113 : BitVec 32 := 0#32
  let v189 : BitVec 32 := Scalar.maxsi v188 c0_i32_113
  let v190 : BitVec 32 := Scalar.subi v189 c0_i32_115
  let c1_i32_116 : BitVec 32 := 1#32
  let v192 : BitVec 32 := Scalar.divsi v190 c1_i32_116
  let v193 : BitVec 32 := Scalar.muli v192 c1_i32_116
  let v194 : BitVec 32 := Scalar.addi c0_i32_115 v193
  let c1_i32_118 : BitVec 32 := 1#32
  let arg18 : BitVec 32 := Scf.iv v194 c1_i32_118 k0_t2
  let c64_i32_1428 : BitVec 32 := 64#32
  let v2099 : BitVec 32 := Scalar.muli arg18 c64_i32_1428
  let v2100 : BitVec 32 := v2099
  let v2107 : Index := Scalar.indexCast v2100
  let c0_1436 : Index := 0#32
  ![0, 1, v2107.toNat, 0]
def k0_off7 (i : grid0.Coords) (k0_t2 : Fin (k0_t2_loop i).trips) : Fin 4 → Nat :=
  let c0_1438 : Index := 0#32
  let c2_1439 : Index := 2#32
  let c0_i32_115 : BitVec 32 := 0#32
  let c8_i32 : BitVec 32 := 8#32
  let arg1 : BitVec 32 := BitVec.ofNat 32 (i 1).val
  let c16_i32 : BitVec 32 := 16#32
  let v186 : BitVec 32 := Scalar.muli arg1 c16_i32
  let c0_i32_112 : BitVec 32 := 0#32
  let v187 : BitVec 32 := Scalar.addi v186 c0_i32_112
  let v188 : BitVec 32 := Scalar.subi c8_i32 v187
  let c0_i32_113 : BitVec 32 := 0#32
  let v189 : BitVec 32 := Scalar.maxsi v188 c0_i32_113
  let v190 : BitVec 32 := Scalar.subi v189 c0_i32_115
  let c1_i32_116 : BitVec 32 := 1#32
  let v192 : BitVec 32 := Scalar.divsi v190 c1_i32_116
  let v193 : BitVec 32 := Scalar.muli v192 c1_i32_116
  let v194 : BitVec 32 := Scalar.addi c0_i32_115 v193
  let c1_i32_118 : BitVec 32 := 1#32
  let arg18 : BitVec 32 := Scf.iv v194 c1_i32_118 k0_t2
  let c64_i32_1428 : BitVec 32 := 64#32
  let v2099 : BitVec 32 := Scalar.muli arg18 c64_i32_1428
  let v2100 : BitVec 32 := v2099
  let v2112 : Index := Scalar.indexCast v2100
  let c0_1440 : Index := 0#32
  ![0, 2, v2112.toNat, 0]
def k0_off8 (i : grid0.Coords) (k0_t2 : Fin (k0_t2_loop i).trips) : Fin 4 → Nat :=
  let c0_1442 : Index := 0#32
  let c3_1443 : Index := 3#32
  let c0_i32_115 : BitVec 32 := 0#32
  let c8_i32 : BitVec 32 := 8#32
  let arg1 : BitVec 32 := BitVec.ofNat 32 (i 1).val
  let c16_i32 : BitVec 32 := 16#32
  let v186 : BitVec 32 := Scalar.muli arg1 c16_i32
  let c0_i32_112 : BitVec 32 := 0#32
  let v187 : BitVec 32 := Scalar.addi v186 c0_i32_112
  let v188 : BitVec 32 := Scalar.subi c8_i32 v187
  let c0_i32_113 : BitVec 32 := 0#32
  let v189 : BitVec 32 := Scalar.maxsi v188 c0_i32_113
  let v190 : BitVec 32 := Scalar.subi v189 c0_i32_115
  let c1_i32_116 : BitVec 32 := 1#32
  let v192 : BitVec 32 := Scalar.divsi v190 c1_i32_116
  let v193 : BitVec 32 := Scalar.muli v192 c1_i32_116
  let v194 : BitVec 32 := Scalar.addi c0_i32_115 v193
  let c1_i32_118 : BitVec 32 := 1#32
  let arg18 : BitVec 32 := Scf.iv v194 c1_i32_118 k0_t2
  let c64_i32_1428 : BitVec 32 := 64#32
  let v2099 : BitVec 32 := Scalar.muli arg18 c64_i32_1428
  let v2100 : BitVec 32 := v2099
  let v2117 : Index := Scalar.indexCast v2100
  let c0_1444 : Index := 0#32
  ![0, 3, v2117.toNat, 0]
@[reducible] def k0_t3_loop (i : grid0.Coords) : Scf.Loop 32 :=
  let c0_i32_335 : BitVec 32 := 0#32
  let c8_i32_332 : BitVec 32 := 8#32
  let arg1 : BitVec 32 := BitVec.ofNat 32 (i 1).val
  let c16_i32_330 : BitVec 32 := 16#32
  let v446 : BitVec 32 := Scalar.muli arg1 c16_i32_330
  let c1_i32_331 : BitVec 32 := 1#32
  let v447 : BitVec 32 := Scalar.addi v446 c1_i32_331
  let v448 : BitVec 32 := Scalar.subi c8_i32_332 v447
  let c0_i32_333 : BitVec 32 := 0#32
  let v449 : BitVec 32 := Scalar.maxsi v448 c0_i32_333
  let v450 : BitVec 32 := Scalar.subi v449 c0_i32_335
  let c1_i32_336 : BitVec 32 := 1#32
  let v452 : BitVec 32 := Scalar.divsi v450 c1_i32_336
  let v453 : BitVec 32 := Scalar.muli v452 c1_i32_336
  let v454 : BitVec 32 := Scalar.addi c0_i32_335 v453
  let c1_i32_337 : BitVec 32 := 1#32
  ⟨c0_i32_335, v454, c1_i32_337⟩
def k0_mult3 (i : grid0.Coords) (k0_t3 : Fin (k0_t3_loop i).trips) : BitVec 32 :=
  let c0_i32_335 : BitVec 32 := 0#32
  let c1_i32_337 : BitVec 32 := 1#32
  let arg18 : BitVec 32 := Scf.iv c0_i32_335 c1_i32_337 k0_t3
  let c64_i32_1428 : BitVec 32 := 64#32
  let v2099 : BitVec 32 := Scalar.muli arg18 c64_i32_1428
  v2099
def k0_off9 (i : grid0.Coords) (k0_t3 : Fin (k0_t3_loop i).trips) : Fin 4 → Nat :=
  let c1_1430 : Index := 1#32
  let c0_1431 : Index := 0#32
  let c0_i32_335 : BitVec 32 := 0#32
  let c1_i32_337 : BitVec 32 := 1#32
  let arg18 : BitVec 32 := Scf.iv c0_i32_335 c1_i32_337 k0_t3
  let c64_i32_1428 : BitVec 32 := 64#32
  let v2099 : BitVec 32 := Scalar.muli arg18 c64_i32_1428
  let v2100 : BitVec 32 := v2099
  let v2102 : Index := Scalar.indexCast v2100
  let c0_1432 : Index := 0#32
  ![1, 0, v2102.toNat, 0]
def k0_off10 (i : grid0.Coords) (k0_t3 : Fin (k0_t3_loop i).trips) : Fin 4 → Nat :=
  let c1_1434 : Index := 1#32
  let c1_1435 : Index := 1#32
  let c0_i32_335 : BitVec 32 := 0#32
  let c1_i32_337 : BitVec 32 := 1#32
  let arg18 : BitVec 32 := Scf.iv c0_i32_335 c1_i32_337 k0_t3
  let c64_i32_1428 : BitVec 32 := 64#32
  let v2099 : BitVec 32 := Scalar.muli arg18 c64_i32_1428
  let v2100 : BitVec 32 := v2099
  let v2107 : Index := Scalar.indexCast v2100
  let c0_1436 : Index := 0#32
  ![1, 1, v2107.toNat, 0]
def k0_off11 (i : grid0.Coords) (k0_t3 : Fin (k0_t3_loop i).trips) : Fin 4 → Nat :=
  let c1_1438 : Index := 1#32
  let c2_1439 : Index := 2#32
  let c0_i32_335 : BitVec 32 := 0#32
  let c1_i32_337 : BitVec 32 := 1#32
  let arg18 : BitVec 32 := Scf.iv c0_i32_335 c1_i32_337 k0_t3
  let c64_i32_1428 : BitVec 32 := 64#32
  let v2099 : BitVec 32 := Scalar.muli arg18 c64_i32_1428
  let v2100 : BitVec 32 := v2099
  let v2112 : Index := Scalar.indexCast v2100
  let c0_1440 : Index := 0#32
  ![1, 2, v2112.toNat, 0]
def k0_off12 (i : grid0.Coords) (k0_t3 : Fin (k0_t3_loop i).trips) : Fin 4 → Nat :=
  let c1_1442 : Index := 1#32
  let c3_1443 : Index := 3#32
  let c0_i32_335 : BitVec 32 := 0#32
  let c1_i32_337 : BitVec 32 := 1#32
  let arg18 : BitVec 32 := Scf.iv c0_i32_335 c1_i32_337 k0_t3
  let c64_i32_1428 : BitVec 32 := 64#32
  let v2099 : BitVec 32 := Scalar.muli arg18 c64_i32_1428
  let v2100 : BitVec 32 := v2099
  let v2117 : Index := Scalar.indexCast v2100
  let c0_1444 : Index := 0#32
  ![1, 3, v2117.toNat, 0]
@[reducible] def k0_t4_loop (i : grid0.Coords) : Scf.Loop 32 :=
  let c0_i32_335 : BitVec 32 := 0#32
  let c8_i32_332 : BitVec 32 := 8#32
  let arg1 : BitVec 32 := BitVec.ofNat 32 (i 1).val
  let c16_i32_330 : BitVec 32 := 16#32
  let v446 : BitVec 32 := Scalar.muli arg1 c16_i32_330
  let c1_i32_331 : BitVec 32 := 1#32
  let v447 : BitVec 32 := Scalar.addi v446 c1_i32_331
  let v448 : BitVec 32 := Scalar.subi c8_i32_332 v447
  let c0_i32_333 : BitVec 32 := 0#32
  let v449 : BitVec 32 := Scalar.maxsi v448 c0_i32_333
  let v450 : BitVec 32 := Scalar.subi v449 c0_i32_335
  let c1_i32_336 : BitVec 32 := 1#32
  let v452 : BitVec 32 := Scalar.divsi v450 c1_i32_336
  let v453 : BitVec 32 := Scalar.muli v452 c1_i32_336
  let v454 : BitVec 32 := Scalar.addi c0_i32_335 v453
  let v451 : BitVec 32 := Scalar.addi c0_i32_335 v450
  let c1_i32_338 : BitVec 32 := 1#32
  ⟨v454, v451, c1_i32_338⟩
def k0_mult4 (i : grid0.Coords) (k0_t4 : Fin (k0_t4_loop i).trips) : BitVec 32 :=
  let c0_i32_335 : BitVec 32 := 0#32
  let c8_i32_332 : BitVec 32 := 8#32
  let arg1 : BitVec 32 := BitVec.ofNat 32 (i 1).val
  let c16_i32_330 : BitVec 32 := 16#32
  let v446 : BitVec 32 := Scalar.muli arg1 c16_i32_330
  let c1_i32_331 : BitVec 32 := 1#32
  let v447 : BitVec 32 := Scalar.addi v446 c1_i32_331
  let v448 : BitVec 32 := Scalar.subi c8_i32_332 v447
  let c0_i32_333 : BitVec 32 := 0#32
  let v449 : BitVec 32 := Scalar.maxsi v448 c0_i32_333
  let v450 : BitVec 32 := Scalar.subi v449 c0_i32_335
  let c1_i32_336 : BitVec 32 := 1#32
  let v452 : BitVec 32 := Scalar.divsi v450 c1_i32_336
  let v453 : BitVec 32 := Scalar.muli v452 c1_i32_336
  let v454 : BitVec 32 := Scalar.addi c0_i32_335 v453
  let c1_i32_338 : BitVec 32 := 1#32
  let arg18 : BitVec 32 := Scf.iv v454 c1_i32_338 k0_t4
  let c64_i32_1428 : BitVec 32 := 64#32
  let v2099 : BitVec 32 := Scalar.muli arg18 c64_i32_1428
  v2099
def k0_off13 (i : grid0.Coords) (k0_t4 : Fin (k0_t4_loop i).trips) : Fin 4 → Nat :=
  let c1_1430 : Index := 1#32
  let c0_1431 : Index := 0#32
  let c0_i32_335 : BitVec 32 := 0#32
  let c8_i32_332 : BitVec 32 := 8#32
  let arg1 : BitVec 32 := BitVec.ofNat 32 (i 1).val
  let c16_i32_330 : BitVec 32 := 16#32
  let v446 : BitVec 32 := Scalar.muli arg1 c16_i32_330
  let c1_i32_331 : BitVec 32 := 1#32
  let v447 : BitVec 32 := Scalar.addi v446 c1_i32_331
  let v448 : BitVec 32 := Scalar.subi c8_i32_332 v447
  let c0_i32_333 : BitVec 32 := 0#32
  let v449 : BitVec 32 := Scalar.maxsi v448 c0_i32_333
  let v450 : BitVec 32 := Scalar.subi v449 c0_i32_335
  let c1_i32_336 : BitVec 32 := 1#32
  let v452 : BitVec 32 := Scalar.divsi v450 c1_i32_336
  let v453 : BitVec 32 := Scalar.muli v452 c1_i32_336
  let v454 : BitVec 32 := Scalar.addi c0_i32_335 v453
  let c1_i32_338 : BitVec 32 := 1#32
  let arg18 : BitVec 32 := Scf.iv v454 c1_i32_338 k0_t4
  let c64_i32_1428 : BitVec 32 := 64#32
  let v2099 : BitVec 32 := Scalar.muli arg18 c64_i32_1428
  let v2100 : BitVec 32 := v2099
  let v2102 : Index := Scalar.indexCast v2100
  let c0_1432 : Index := 0#32
  ![1, 0, v2102.toNat, 0]
def k0_off14 (i : grid0.Coords) (k0_t4 : Fin (k0_t4_loop i).trips) : Fin 4 → Nat :=
  let c1_1434 : Index := 1#32
  let c1_1435 : Index := 1#32
  let c0_i32_335 : BitVec 32 := 0#32
  let c8_i32_332 : BitVec 32 := 8#32
  let arg1 : BitVec 32 := BitVec.ofNat 32 (i 1).val
  let c16_i32_330 : BitVec 32 := 16#32
  let v446 : BitVec 32 := Scalar.muli arg1 c16_i32_330
  let c1_i32_331 : BitVec 32 := 1#32
  let v447 : BitVec 32 := Scalar.addi v446 c1_i32_331
  let v448 : BitVec 32 := Scalar.subi c8_i32_332 v447
  let c0_i32_333 : BitVec 32 := 0#32
  let v449 : BitVec 32 := Scalar.maxsi v448 c0_i32_333
  let v450 : BitVec 32 := Scalar.subi v449 c0_i32_335
  let c1_i32_336 : BitVec 32 := 1#32
  let v452 : BitVec 32 := Scalar.divsi v450 c1_i32_336
  let v453 : BitVec 32 := Scalar.muli v452 c1_i32_336
  let v454 : BitVec 32 := Scalar.addi c0_i32_335 v453
  let c1_i32_338 : BitVec 32 := 1#32
  let arg18 : BitVec 32 := Scf.iv v454 c1_i32_338 k0_t4
  let c64_i32_1428 : BitVec 32 := 64#32
  let v2099 : BitVec 32 := Scalar.muli arg18 c64_i32_1428
  let v2100 : BitVec 32 := v2099
  let v2107 : Index := Scalar.indexCast v2100
  let c0_1436 : Index := 0#32
  ![1, 1, v2107.toNat, 0]
def k0_off15 (i : grid0.Coords) (k0_t4 : Fin (k0_t4_loop i).trips) : Fin 4 → Nat :=
  let c1_1438 : Index := 1#32
  let c2_1439 : Index := 2#32
  let c0_i32_335 : BitVec 32 := 0#32
  let c8_i32_332 : BitVec 32 := 8#32
  let arg1 : BitVec 32 := BitVec.ofNat 32 (i 1).val
  let c16_i32_330 : BitVec 32 := 16#32
  let v446 : BitVec 32 := Scalar.muli arg1 c16_i32_330
  let c1_i32_331 : BitVec 32 := 1#32
  let v447 : BitVec 32 := Scalar.addi v446 c1_i32_331
  let v448 : BitVec 32 := Scalar.subi c8_i32_332 v447
  let c0_i32_333 : BitVec 32 := 0#32
  let v449 : BitVec 32 := Scalar.maxsi v448 c0_i32_333
  let v450 : BitVec 32 := Scalar.subi v449 c0_i32_335
  let c1_i32_336 : BitVec 32 := 1#32
  let v452 : BitVec 32 := Scalar.divsi v450 c1_i32_336
  let v453 : BitVec 32 := Scalar.muli v452 c1_i32_336
  let v454 : BitVec 32 := Scalar.addi c0_i32_335 v453
  let c1_i32_338 : BitVec 32 := 1#32
  let arg18 : BitVec 32 := Scf.iv v454 c1_i32_338 k0_t4
  let c64_i32_1428 : BitVec 32 := 64#32
  let v2099 : BitVec 32 := Scalar.muli arg18 c64_i32_1428
  let v2100 : BitVec 32 := v2099
  let v2112 : Index := Scalar.indexCast v2100
  let c0_1440 : Index := 0#32
  ![1, 2, v2112.toNat, 0]
def k0_off16 (i : grid0.Coords) (k0_t4 : Fin (k0_t4_loop i).trips) : Fin 4 → Nat :=
  let c1_1442 : Index := 1#32
  let c3_1443 : Index := 3#32
  let c0_i32_335 : BitVec 32 := 0#32
  let c8_i32_332 : BitVec 32 := 8#32
  let arg1 : BitVec 32 := BitVec.ofNat 32 (i 1).val
  let c16_i32_330 : BitVec 32 := 16#32
  let v446 : BitVec 32 := Scalar.muli arg1 c16_i32_330
  let c1_i32_331 : BitVec 32 := 1#32
  let v447 : BitVec 32 := Scalar.addi v446 c1_i32_331
  let v448 : BitVec 32 := Scalar.subi c8_i32_332 v447
  let c0_i32_333 : BitVec 32 := 0#32
  let v449 : BitVec 32 := Scalar.maxsi v448 c0_i32_333
  let v450 : BitVec 32 := Scalar.subi v449 c0_i32_335
  let c1_i32_336 : BitVec 32 := 1#32
  let v452 : BitVec 32 := Scalar.divsi v450 c1_i32_336
  let v453 : BitVec 32 := Scalar.muli v452 c1_i32_336
  let v454 : BitVec 32 := Scalar.addi c0_i32_335 v453
  let c1_i32_338 : BitVec 32 := 1#32
  let arg18 : BitVec 32 := Scf.iv v454 c1_i32_338 k0_t4
  let c64_i32_1428 : BitVec 32 := 64#32
  let v2099 : BitVec 32 := Scalar.muli arg18 c64_i32_1428
  let v2100 : BitVec 32 := v2099
  let v2117 : Index := Scalar.indexCast v2100
  let c0_1444 : Index := 0#32
  ![1, 3, v2117.toNat, 0]
@[reducible] def k0_t5_loop (i : grid0.Coords) : Scf.Loop 32 :=
  let c0_i32_644 : BitVec 32 := 0#32
  let c8_i32_641 : BitVec 32 := 8#32
  let arg1 : BitVec 32 := BitVec.ofNat 32 (i 1).val
  let c16_i32_639 : BitVec 32 := 16#32
  let v814 : BitVec 32 := Scalar.muli arg1 c16_i32_639
  let c2_i32_640 : BitVec 32 := 2#32
  let v815 : BitVec 32 := Scalar.addi v814 c2_i32_640
  let v816 : BitVec 32 := Scalar.subi c8_i32_641 v815
  let c0_i32_642 : BitVec 32 := 0#32
  let v817 : BitVec 32 := Scalar.maxsi v816 c0_i32_642
  let v818 : BitVec 32 := Scalar.subi v817 c0_i32_644
  let c1_i32_645 : BitVec 32 := 1#32
  let v820 : BitVec 32 := Scalar.divsi v818 c1_i32_645
  let v821 : BitVec 32 := Scalar.muli v820 c1_i32_645
  let v822 : BitVec 32 := Scalar.addi c0_i32_644 v821
  let c1_i32_646 : BitVec 32 := 1#32
  ⟨c0_i32_644, v822, c1_i32_646⟩
def k0_mult5 (i : grid0.Coords) (k0_t5 : Fin (k0_t5_loop i).trips) : BitVec 32 :=
  let c0_i32_644 : BitVec 32 := 0#32
  let c1_i32_646 : BitVec 32 := 1#32
  let arg18 : BitVec 32 := Scf.iv c0_i32_644 c1_i32_646 k0_t5
  let c64_i32_1428 : BitVec 32 := 64#32
  let v2099 : BitVec 32 := Scalar.muli arg18 c64_i32_1428
  v2099
def k0_off17 (i : grid0.Coords) (k0_t5 : Fin (k0_t5_loop i).trips) : Fin 4 → Nat :=
  let c0_1430 : Index := 0#32
  let c0_1431 : Index := 0#32
  let c0_i32_644 : BitVec 32 := 0#32
  let c1_i32_646 : BitVec 32 := 1#32
  let arg18 : BitVec 32 := Scf.iv c0_i32_644 c1_i32_646 k0_t5
  let c64_i32_1428 : BitVec 32 := 64#32
  let v2099 : BitVec 32 := Scalar.muli arg18 c64_i32_1428
  let v2100 : BitVec 32 := v2099
  let v2102 : Index := Scalar.indexCast v2100
  let c0_1432 : Index := 0#32
  ![0, 0, v2102.toNat, 0]
def k0_off18 (i : grid0.Coords) (k0_t5 : Fin (k0_t5_loop i).trips) : Fin 4 → Nat :=
  let c0_1434 : Index := 0#32
  let c1_1435 : Index := 1#32
  let c0_i32_644 : BitVec 32 := 0#32
  let c1_i32_646 : BitVec 32 := 1#32
  let arg18 : BitVec 32 := Scf.iv c0_i32_644 c1_i32_646 k0_t5
  let c64_i32_1428 : BitVec 32 := 64#32
  let v2099 : BitVec 32 := Scalar.muli arg18 c64_i32_1428
  let v2100 : BitVec 32 := v2099
  let v2107 : Index := Scalar.indexCast v2100
  let c0_1436 : Index := 0#32
  ![0, 1, v2107.toNat, 0]
def k0_off19 (i : grid0.Coords) (k0_t5 : Fin (k0_t5_loop i).trips) : Fin 4 → Nat :=
  let c0_1438 : Index := 0#32
  let c2_1439 : Index := 2#32
  let c0_i32_644 : BitVec 32 := 0#32
  let c1_i32_646 : BitVec 32 := 1#32
  let arg18 : BitVec 32 := Scf.iv c0_i32_644 c1_i32_646 k0_t5
  let c64_i32_1428 : BitVec 32 := 64#32
  let v2099 : BitVec 32 := Scalar.muli arg18 c64_i32_1428
  let v2100 : BitVec 32 := v2099
  let v2112 : Index := Scalar.indexCast v2100
  let c0_1440 : Index := 0#32
  ![0, 2, v2112.toNat, 0]
def k0_off20 (i : grid0.Coords) (k0_t5 : Fin (k0_t5_loop i).trips) : Fin 4 → Nat :=
  let c0_1442 : Index := 0#32
  let c3_1443 : Index := 3#32
  let c0_i32_644 : BitVec 32 := 0#32
  let c1_i32_646 : BitVec 32 := 1#32
  let arg18 : BitVec 32 := Scf.iv c0_i32_644 c1_i32_646 k0_t5
  let c64_i32_1428 : BitVec 32 := 64#32
  let v2099 : BitVec 32 := Scalar.muli arg18 c64_i32_1428
  let v2100 : BitVec 32 := v2099
  let v2117 : Index := Scalar.indexCast v2100
  let c0_1444 : Index := 0#32
  ![0, 3, v2117.toNat, 0]
@[reducible] def k0_t6_loop (i : grid0.Coords) : Scf.Loop 32 :=
  let c0_i32_644 : BitVec 32 := 0#32
  let c8_i32_641 : BitVec 32 := 8#32
  let arg1 : BitVec 32 := BitVec.ofNat 32 (i 1).val
  let c16_i32_639 : BitVec 32 := 16#32
  let v814 : BitVec 32 := Scalar.muli arg1 c16_i32_639
  let c2_i32_640 : BitVec 32 := 2#32
  let v815 : BitVec 32 := Scalar.addi v814 c2_i32_640
  let v816 : BitVec 32 := Scalar.subi c8_i32_641 v815
  let c0_i32_642 : BitVec 32 := 0#32
  let v817 : BitVec 32 := Scalar.maxsi v816 c0_i32_642
  let v818 : BitVec 32 := Scalar.subi v817 c0_i32_644
  let c1_i32_645 : BitVec 32 := 1#32
  let v820 : BitVec 32 := Scalar.divsi v818 c1_i32_645
  let v821 : BitVec 32 := Scalar.muli v820 c1_i32_645
  let v822 : BitVec 32 := Scalar.addi c0_i32_644 v821
  let v819 : BitVec 32 := Scalar.addi c0_i32_644 v818
  let c1_i32_647 : BitVec 32 := 1#32
  ⟨v822, v819, c1_i32_647⟩
def k0_mult6 (i : grid0.Coords) (k0_t6 : Fin (k0_t6_loop i).trips) : BitVec 32 :=
  let c0_i32_644 : BitVec 32 := 0#32
  let c8_i32_641 : BitVec 32 := 8#32
  let arg1 : BitVec 32 := BitVec.ofNat 32 (i 1).val
  let c16_i32_639 : BitVec 32 := 16#32
  let v814 : BitVec 32 := Scalar.muli arg1 c16_i32_639
  let c2_i32_640 : BitVec 32 := 2#32
  let v815 : BitVec 32 := Scalar.addi v814 c2_i32_640
  let v816 : BitVec 32 := Scalar.subi c8_i32_641 v815
  let c0_i32_642 : BitVec 32 := 0#32
  let v817 : BitVec 32 := Scalar.maxsi v816 c0_i32_642
  let v818 : BitVec 32 := Scalar.subi v817 c0_i32_644
  let c1_i32_645 : BitVec 32 := 1#32
  let v820 : BitVec 32 := Scalar.divsi v818 c1_i32_645
  let v821 : BitVec 32 := Scalar.muli v820 c1_i32_645
  let v822 : BitVec 32 := Scalar.addi c0_i32_644 v821
  let c1_i32_647 : BitVec 32 := 1#32
  let arg18 : BitVec 32 := Scf.iv v822 c1_i32_647 k0_t6
  let c64_i32_1428 : BitVec 32 := 64#32
  let v2099 : BitVec 32 := Scalar.muli arg18 c64_i32_1428
  v2099
def k0_off21 (i : grid0.Coords) (k0_t6 : Fin (k0_t6_loop i).trips) : Fin 4 → Nat :=
  let c0_1430 : Index := 0#32
  let c0_1431 : Index := 0#32
  let c0_i32_644 : BitVec 32 := 0#32
  let c8_i32_641 : BitVec 32 := 8#32
  let arg1 : BitVec 32 := BitVec.ofNat 32 (i 1).val
  let c16_i32_639 : BitVec 32 := 16#32
  let v814 : BitVec 32 := Scalar.muli arg1 c16_i32_639
  let c2_i32_640 : BitVec 32 := 2#32
  let v815 : BitVec 32 := Scalar.addi v814 c2_i32_640
  let v816 : BitVec 32 := Scalar.subi c8_i32_641 v815
  let c0_i32_642 : BitVec 32 := 0#32
  let v817 : BitVec 32 := Scalar.maxsi v816 c0_i32_642
  let v818 : BitVec 32 := Scalar.subi v817 c0_i32_644
  let c1_i32_645 : BitVec 32 := 1#32
  let v820 : BitVec 32 := Scalar.divsi v818 c1_i32_645
  let v821 : BitVec 32 := Scalar.muli v820 c1_i32_645
  let v822 : BitVec 32 := Scalar.addi c0_i32_644 v821
  let c1_i32_647 : BitVec 32 := 1#32
  let arg18 : BitVec 32 := Scf.iv v822 c1_i32_647 k0_t6
  let c64_i32_1428 : BitVec 32 := 64#32
  let v2099 : BitVec 32 := Scalar.muli arg18 c64_i32_1428
  let v2100 : BitVec 32 := v2099
  let v2102 : Index := Scalar.indexCast v2100
  let c0_1432 : Index := 0#32
  ![0, 0, v2102.toNat, 0]
def k0_off22 (i : grid0.Coords) (k0_t6 : Fin (k0_t6_loop i).trips) : Fin 4 → Nat :=
  let c0_1434 : Index := 0#32
  let c1_1435 : Index := 1#32
  let c0_i32_644 : BitVec 32 := 0#32
  let c8_i32_641 : BitVec 32 := 8#32
  let arg1 : BitVec 32 := BitVec.ofNat 32 (i 1).val
  let c16_i32_639 : BitVec 32 := 16#32
  let v814 : BitVec 32 := Scalar.muli arg1 c16_i32_639
  let c2_i32_640 : BitVec 32 := 2#32
  let v815 : BitVec 32 := Scalar.addi v814 c2_i32_640
  let v816 : BitVec 32 := Scalar.subi c8_i32_641 v815
  let c0_i32_642 : BitVec 32 := 0#32
  let v817 : BitVec 32 := Scalar.maxsi v816 c0_i32_642
  let v818 : BitVec 32 := Scalar.subi v817 c0_i32_644
  let c1_i32_645 : BitVec 32 := 1#32
  let v820 : BitVec 32 := Scalar.divsi v818 c1_i32_645
  let v821 : BitVec 32 := Scalar.muli v820 c1_i32_645
  let v822 : BitVec 32 := Scalar.addi c0_i32_644 v821
  let c1_i32_647 : BitVec 32 := 1#32
  let arg18 : BitVec 32 := Scf.iv v822 c1_i32_647 k0_t6
  let c64_i32_1428 : BitVec 32 := 64#32
  let v2099 : BitVec 32 := Scalar.muli arg18 c64_i32_1428
  let v2100 : BitVec 32 := v2099
  let v2107 : Index := Scalar.indexCast v2100
  let c0_1436 : Index := 0#32
  ![0, 1, v2107.toNat, 0]
def k0_off23 (i : grid0.Coords) (k0_t6 : Fin (k0_t6_loop i).trips) : Fin 4 → Nat :=
  let c0_1438 : Index := 0#32
  let c2_1439 : Index := 2#32
  let c0_i32_644 : BitVec 32 := 0#32
  let c8_i32_641 : BitVec 32 := 8#32
  let arg1 : BitVec 32 := BitVec.ofNat 32 (i 1).val
  let c16_i32_639 : BitVec 32 := 16#32
  let v814 : BitVec 32 := Scalar.muli arg1 c16_i32_639
  let c2_i32_640 : BitVec 32 := 2#32
  let v815 : BitVec 32 := Scalar.addi v814 c2_i32_640
  let v816 : BitVec 32 := Scalar.subi c8_i32_641 v815
  let c0_i32_642 : BitVec 32 := 0#32
  let v817 : BitVec 32 := Scalar.maxsi v816 c0_i32_642
  let v818 : BitVec 32 := Scalar.subi v817 c0_i32_644
  let c1_i32_645 : BitVec 32 := 1#32
  let v820 : BitVec 32 := Scalar.divsi v818 c1_i32_645
  let v821 : BitVec 32 := Scalar.muli v820 c1_i32_645
  let v822 : BitVec 32 := Scalar.addi c0_i32_644 v821
  let c1_i32_647 : BitVec 32 := 1#32
  let arg18 : BitVec 32 := Scf.iv v822 c1_i32_647 k0_t6
  let c64_i32_1428 : BitVec 32 := 64#32
  let v2099 : BitVec 32 := Scalar.muli arg18 c64_i32_1428
  let v2100 : BitVec 32 := v2099
  let v2112 : Index := Scalar.indexCast v2100
  let c0_1440 : Index := 0#32
  ![0, 2, v2112.toNat, 0]
def k0_off24 (i : grid0.Coords) (k0_t6 : Fin (k0_t6_loop i).trips) : Fin 4 → Nat :=
  let c0_1442 : Index := 0#32
  let c3_1443 : Index := 3#32
  let c0_i32_644 : BitVec 32 := 0#32
  let c8_i32_641 : BitVec 32 := 8#32
  let arg1 : BitVec 32 := BitVec.ofNat 32 (i 1).val
  let c16_i32_639 : BitVec 32 := 16#32
  let v814 : BitVec 32 := Scalar.muli arg1 c16_i32_639
  let c2_i32_640 : BitVec 32 := 2#32
  let v815 : BitVec 32 := Scalar.addi v814 c2_i32_640
  let v816 : BitVec 32 := Scalar.subi c8_i32_641 v815
  let c0_i32_642 : BitVec 32 := 0#32
  let v817 : BitVec 32 := Scalar.maxsi v816 c0_i32_642
  let v818 : BitVec 32 := Scalar.subi v817 c0_i32_644
  let c1_i32_645 : BitVec 32 := 1#32
  let v820 : BitVec 32 := Scalar.divsi v818 c1_i32_645
  let v821 : BitVec 32 := Scalar.muli v820 c1_i32_645
  let v822 : BitVec 32 := Scalar.addi c0_i32_644 v821
  let c1_i32_647 : BitVec 32 := 1#32
  let arg18 : BitVec 32 := Scf.iv v822 c1_i32_647 k0_t6
  let c64_i32_1428 : BitVec 32 := 64#32
  let v2099 : BitVec 32 := Scalar.muli arg18 c64_i32_1428
  let v2100 : BitVec 32 := v2099
  let v2117 : Index := Scalar.indexCast v2100
  let c0_1444 : Index := 0#32
  ![0, 3, v2117.toNat, 0]
@[reducible] def k0_t7_loop : Scf.Loop 32 :=
  let c0_i32_650 : BitVec 32 := 0#32
  let c6_i32 : BitVec 32 := 6#32
  let v826 : BitVec 32 := Scalar.addi c0_i32_650 c6_i32
  let c1_i32_651 : BitVec 32 := 1#32
  ⟨c0_i32_650, v826, c1_i32_651⟩
def k0_mult7 (k0_t7 : Fin k0_t7_loop.trips) : BitVec 32 :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c0_i32_1430 : BitVec 32 := 0#32
  let v2101 : BitVec 32 := Scalar.addi v2100 c0_i32_1430
  let c64_i32_1431 : BitVec 32 := 64#32
  let v2102 : BitVec 32 := Scalar.muli v2101 c64_i32_1431
  v2102
def k0_off25 (k0_t7 : Fin k0_t7_loop.trips) (c0_i32_1430 : BitVec 32) : Fin 3 → Nat :=
  let c0_1432 : Index := 0#32
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2101 : BitVec 32 := Scalar.addi v2100 c0_i32_1430
  let c64_i32_1431 : BitVec 32 := 64#32
  let v2102 : BitVec 32 := Scalar.muli v2101 c64_i32_1431
  let v2103 : BitVec 32 := v2102
  let v2104 : Index := Scalar.indexCast v2103
  let c0_1433 : Index := 0#32
  ![0, v2104.toNat, 0]
def k0_off26 (k0_t7 : Fin k0_t7_loop.trips) (c0_i32_1430 : BitVec 32) : Fin 2 → Nat :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2101 : BitVec 32 := Scalar.addi v2100 c0_i32_1430
  let c64_i32_1431 : BitVec 32 := 64#32
  let v2102 : BitVec 32 := Scalar.muli v2101 c64_i32_1431
  let v2103 : BitVec 32 := v2102
  let v2110 : Index := Scalar.indexCast v2103
  let c0_1435 : Index := 0#32
  ![v2110.toNat, 0]
def k0_off27 (k0_t7 : Fin k0_t7_loop.trips) (c0_i32_1430 : BitVec 32) : Fin 3 → Nat :=
  let c0_1449 : Index := 0#32
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2101 : BitVec 32 := Scalar.addi v2100 c0_i32_1430
  let c64_i32_1431 : BitVec 32 := 64#32
  let v2102 : BitVec 32 := Scalar.muli v2101 c64_i32_1431
  let v2103 : BitVec 32 := v2102
  let v2126 : Index := Scalar.indexCast v2103
  let c256_1450 : Index := 256#32
  ![0, v2126.toNat, 256]
def k0_off28 (k0_t7 : Fin k0_t7_loop.trips) (c0_i32_1430 : BitVec 32) : Fin 2 → Nat :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2101 : BitVec 32 := Scalar.addi v2100 c0_i32_1430
  let c64_i32_1431 : BitVec 32 := 64#32
  let v2102 : BitVec 32 := Scalar.muli v2101 c64_i32_1431
  let v2103 : BitVec 32 := v2102
  let v2132 : Index := Scalar.indexCast v2103
  let c256_1452 : Index := 256#32
  ![v2132.toNat, 256]
def k0_off29 (k0_t7 : Fin k0_t7_loop.trips) (c0_i32_1430 : BitVec 32) : Fin 3 → Nat :=
  let c0_1466 : Index := 0#32
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2101 : BitVec 32 := Scalar.addi v2100 c0_i32_1430
  let c64_i32_1431 : BitVec 32 := 64#32
  let v2102 : BitVec 32 := Scalar.muli v2101 c64_i32_1431
  let v2103 : BitVec 32 := v2102
  let v2148 : Index := Scalar.indexCast v2103
  let c512_1467 : Index := 512#32
  ![0, v2148.toNat, 512]
def k0_off30 (k0_t7 : Fin k0_t7_loop.trips) (c0_i32_1430 : BitVec 32) : Fin 2 → Nat :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2101 : BitVec 32 := Scalar.addi v2100 c0_i32_1430
  let c64_i32_1431 : BitVec 32 := 64#32
  let v2102 : BitVec 32 := Scalar.muli v2101 c64_i32_1431
  let v2103 : BitVec 32 := v2102
  let v2154 : Index := Scalar.indexCast v2103
  let c512_1469 : Index := 512#32
  ![v2154.toNat, 512]
def k0_off31 (k0_t7 : Fin k0_t7_loop.trips) (c0_i32_1430 : BitVec 32) : Fin 3 → Nat :=
  let c0_1483 : Index := 0#32
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2101 : BitVec 32 := Scalar.addi v2100 c0_i32_1430
  let c64_i32_1431 : BitVec 32 := 64#32
  let v2102 : BitVec 32 := Scalar.muli v2101 c64_i32_1431
  let v2103 : BitVec 32 := v2102
  let v2170 : Index := Scalar.indexCast v2103
  let c768_1484 : Index := 768#32
  ![0, v2170.toNat, 768]
def k0_off32 (k0_t7 : Fin k0_t7_loop.trips) (c0_i32_1430 : BitVec 32) : Fin 2 → Nat :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2101 : BitVec 32 := Scalar.addi v2100 c0_i32_1430
  let c64_i32_1431 : BitVec 32 := 64#32
  let v2102 : BitVec 32 := Scalar.muli v2101 c64_i32_1431
  let v2103 : BitVec 32 := v2102
  let v2176 : Index := Scalar.indexCast v2103
  let c768_1486 : Index := 768#32
  ![v2176.toNat, 768]
def k0_mult8 (k0_t7 : Fin k0_t7_loop.trips) : BitVec 32 :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c0_i32_1636 : BitVec 32 := 0#32
  let v2360 : BitVec 32 := Scalar.addi v2100 c0_i32_1636
  let c2_i32_1637 : BitVec 32 := 2#32
  let v2361 : BitVec 32 := Scalar.subi v2360 c2_i32_1637
  let c64_i32_1638 : BitVec 32 := 64#32
  let v2362 : BitVec 32 := Scalar.muli v2361 c64_i32_1638
  v2362
def k0_off33 (k0_t7 : Fin k0_t7_loop.trips) (c0_i32_1636 : BitVec 32) : Fin 2 → Nat :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2360 : BitVec 32 := Scalar.addi v2100 c0_i32_1636
  let c2_i32_1637 : BitVec 32 := 2#32
  let v2361 : BitVec 32 := Scalar.subi v2360 c2_i32_1637
  let c64_i32_1638 : BitVec 32 := 64#32
  let v2362 : BitVec 32 := Scalar.muli v2361 c64_i32_1638
  let v2363 : BitVec 32 := v2362
  let v2364 : Index := Scalar.indexCast v2363
  let c0_1639 : Index := 0#32
  ![v2364.toNat, 0]
def k0_off34 (k0_t7 : Fin k0_t7_loop.trips) (c0_i32_1636 : BitVec 32) : Fin 2 → Nat :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2360 : BitVec 32 := Scalar.addi v2100 c0_i32_1636
  let c2_i32_1637 : BitVec 32 := 2#32
  let v2361 : BitVec 32 := Scalar.subi v2360 c2_i32_1637
  let c64_i32_1638 : BitVec 32 := 64#32
  let v2362 : BitVec 32 := Scalar.muli v2361 c64_i32_1638
  let v2363 : BitVec 32 := v2362
  let v2392 : Index := Scalar.indexCast v2363
  let c256_1660 : Index := 256#32
  ![v2392.toNat, 256]
def k0_off35 (k0_t7 : Fin k0_t7_loop.trips) (c0_i32_1636 : BitVec 32) : Fin 2 → Nat :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2360 : BitVec 32 := Scalar.addi v2100 c0_i32_1636
  let c2_i32_1637 : BitVec 32 := 2#32
  let v2361 : BitVec 32 := Scalar.subi v2360 c2_i32_1637
  let c64_i32_1638 : BitVec 32 := 64#32
  let v2362 : BitVec 32 := Scalar.muli v2361 c64_i32_1638
  let v2363 : BitVec 32 := v2362
  let v2420 : Index := Scalar.indexCast v2363
  let c512_1681 : Index := 512#32
  ![v2420.toNat, 512]
def k0_off36 (k0_t7 : Fin k0_t7_loop.trips) (c0_i32_1636 : BitVec 32) : Fin 2 → Nat :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2360 : BitVec 32 := Scalar.addi v2100 c0_i32_1636
  let c2_i32_1637 : BitVec 32 := 2#32
  let v2361 : BitVec 32 := Scalar.subi v2360 c2_i32_1637
  let c64_i32_1638 : BitVec 32 := 64#32
  let v2362 : BitVec 32 := Scalar.muli v2361 c64_i32_1638
  let v2363 : BitVec 32 := v2362
  let v2448 : Index := Scalar.indexCast v2363
  let c768_1702 : Index := 768#32
  ![v2448.toNat, 768]
def k0_mult9 (k0_t7 : Fin k0_t7_loop.trips) : BitVec 32 :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c0_i32_1723 : BitVec 32 := 0#32
  let v2476 : BitVec 32 := Scalar.addi v2100 c0_i32_1723
  let c3_i32_1724 : BitVec 32 := 3#32
  let v2477 : BitVec 32 := Scalar.subi v2476 c3_i32_1724
  let c64_i32_1725 : BitVec 32 := 64#32
  let v2478 : BitVec 32 := Scalar.muli v2477 c64_i32_1725
  v2478
def k0_off37 (k0_t7 : Fin k0_t7_loop.trips) (c0_i32_1723 : BitVec 32) : Fin 3 → Nat :=
  let c0_1762 : Index := 0#32
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let v2476 : BitVec 32 := Scalar.addi v2100 c0_i32_1723
  let c3_i32_1724 : BitVec 32 := 3#32
  let v2477 : BitVec 32 := Scalar.subi v2476 c3_i32_1724
  let c64_i32_1725 : BitVec 32 := 64#32
  let v2478 : BitVec 32 := Scalar.muli v2477 c64_i32_1725
  let v2479 : BitVec 32 := v2478
  let v2607 : Index := Scalar.indexCast v2479
  let c0_1763 : Index := 0#32
  ![0, v2607.toNat, 0]
@[reducible] def k0_t8_loop (i : grid0.Coords) (k0_t7 : Fin k0_t7_loop.trips) : Scf.Loop 32 :=
  let c0_i32_1769 : BitVec 32 := 0#32
  let c8_i32_1766 : BitVec 32 := 8#32
  let arg1 : BitVec 32 := BitVec.ofNat 32 (i 1).val
  let c16_i32_1765 : BitVec 32 := 16#32
  let v2612 : BitVec 32 := Scalar.muli arg1 c16_i32_1765
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c0_i32_1764 : BitVec 32 := 0#32
  let v2611 : BitVec 32 := Scalar.addi v2100 c0_i32_1764
  let v2613 : BitVec 32 := Scalar.addi v2612 v2611
  let v2614 : BitVec 32 := Scalar.subi c8_i32_1766 v2613
  let c0_i32_1767 : BitVec 32 := 0#32
  let v2615 : BitVec 32 := Scalar.maxsi v2614 c0_i32_1767
  let v2616 : BitVec 32 := Scalar.subi v2615 c0_i32_1769
  let c1_i32_1770 : BitVec 32 := 1#32
  let v2618 : BitVec 32 := Scalar.divsi v2616 c1_i32_1770
  let v2619 : BitVec 32 := Scalar.muli v2618 c1_i32_1770
  let v2620 : BitVec 32 := Scalar.addi c0_i32_1769 v2619
  let c1_i32_1771 : BitVec 32 := 1#32
  ⟨c0_i32_1769, v2620, c1_i32_1771⟩
def k0_mult10 (i : grid0.Coords) (k0_t7 : Fin k0_t7_loop.trips) (k0_t8 : Fin (k0_t8_loop i k0_t7).trips) : BitVec 32 :=
  let c0_i32_1769 : BitVec 32 := 0#32
  let c1_i32_1771 : BitVec 32 := 1#32
  let arg19 : BitVec 32 := Scf.iv c0_i32_1769 c1_i32_1771 k0_t8
  let c64_i32_2120 : BitVec 32 := 64#32
  let v3147 : BitVec 32 := Scalar.muli arg19 c64_i32_2120
  v3147
def k0_off38 (i : grid0.Coords) (k0_t7 : Fin k0_t7_loop.trips) (k0_t8 : Fin (k0_t8_loop i k0_t7).trips) : Fin 4 → Nat :=
  let c1_2122 : Index := 1#32
  let c0_2123 : Index := 0#32
  let c0_i32_1769 : BitVec 32 := 0#32
  let c1_i32_1771 : BitVec 32 := 1#32
  let arg19 : BitVec 32 := Scf.iv c0_i32_1769 c1_i32_1771 k0_t8
  let c64_i32_2120 : BitVec 32 := 64#32
  let v3147 : BitVec 32 := Scalar.muli arg19 c64_i32_2120
  let v3148 : BitVec 32 := v3147
  let v3150 : Index := Scalar.indexCast v3148
  let c0_2124 : Index := 0#32
  ![1, 0, v3150.toNat, 0]
def k0_off39 (i : grid0.Coords) (k0_t7 : Fin k0_t7_loop.trips) (k0_t8 : Fin (k0_t8_loop i k0_t7).trips) : Fin 4 → Nat :=
  let c1_2126 : Index := 1#32
  let c1_2127 : Index := 1#32
  let c0_i32_1769 : BitVec 32 := 0#32
  let c1_i32_1771 : BitVec 32 := 1#32
  let arg19 : BitVec 32 := Scf.iv c0_i32_1769 c1_i32_1771 k0_t8
  let c64_i32_2120 : BitVec 32 := 64#32
  let v3147 : BitVec 32 := Scalar.muli arg19 c64_i32_2120
  let v3148 : BitVec 32 := v3147
  let v3155 : Index := Scalar.indexCast v3148
  let c0_2128 : Index := 0#32
  ![1, 1, v3155.toNat, 0]
def k0_off40 (i : grid0.Coords) (k0_t7 : Fin k0_t7_loop.trips) (k0_t8 : Fin (k0_t8_loop i k0_t7).trips) : Fin 4 → Nat :=
  let c1_2130 : Index := 1#32
  let c2_2131 : Index := 2#32
  let c0_i32_1769 : BitVec 32 := 0#32
  let c1_i32_1771 : BitVec 32 := 1#32
  let arg19 : BitVec 32 := Scf.iv c0_i32_1769 c1_i32_1771 k0_t8
  let c64_i32_2120 : BitVec 32 := 64#32
  let v3147 : BitVec 32 := Scalar.muli arg19 c64_i32_2120
  let v3148 : BitVec 32 := v3147
  let v3160 : Index := Scalar.indexCast v3148
  let c0_2132 : Index := 0#32
  ![1, 2, v3160.toNat, 0]
def k0_off41 (i : grid0.Coords) (k0_t7 : Fin k0_t7_loop.trips) (k0_t8 : Fin (k0_t8_loop i k0_t7).trips) : Fin 4 → Nat :=
  let c1_2134 : Index := 1#32
  let c3_2135 : Index := 3#32
  let c0_i32_1769 : BitVec 32 := 0#32
  let c1_i32_1771 : BitVec 32 := 1#32
  let arg19 : BitVec 32 := Scf.iv c0_i32_1769 c1_i32_1771 k0_t8
  let c64_i32_2120 : BitVec 32 := 64#32
  let v3147 : BitVec 32 := Scalar.muli arg19 c64_i32_2120
  let v3148 : BitVec 32 := v3147
  let v3165 : Index := Scalar.indexCast v3148
  let c0_2136 : Index := 0#32
  ![1, 3, v3165.toNat, 0]
@[reducible] def k0_t9_loop (i : grid0.Coords) (k0_t7 : Fin k0_t7_loop.trips) : Scf.Loop 32 :=
  let c0_i32_1769 : BitVec 32 := 0#32
  let c8_i32_1766 : BitVec 32 := 8#32
  let arg1 : BitVec 32 := BitVec.ofNat 32 (i 1).val
  let c16_i32_1765 : BitVec 32 := 16#32
  let v2612 : BitVec 32 := Scalar.muli arg1 c16_i32_1765
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c0_i32_1764 : BitVec 32 := 0#32
  let v2611 : BitVec 32 := Scalar.addi v2100 c0_i32_1764
  let v2613 : BitVec 32 := Scalar.addi v2612 v2611
  let v2614 : BitVec 32 := Scalar.subi c8_i32_1766 v2613
  let c0_i32_1767 : BitVec 32 := 0#32
  let v2615 : BitVec 32 := Scalar.maxsi v2614 c0_i32_1767
  let v2616 : BitVec 32 := Scalar.subi v2615 c0_i32_1769
  let c1_i32_1770 : BitVec 32 := 1#32
  let v2618 : BitVec 32 := Scalar.divsi v2616 c1_i32_1770
  let v2619 : BitVec 32 := Scalar.muli v2618 c1_i32_1770
  let v2620 : BitVec 32 := Scalar.addi c0_i32_1769 v2619
  let v2617 : BitVec 32 := Scalar.addi c0_i32_1769 v2616
  let c1_i32_1772 : BitVec 32 := 1#32
  ⟨v2620, v2617, c1_i32_1772⟩
def k0_mult11 (i : grid0.Coords) (k0_t7 : Fin k0_t7_loop.trips) (k0_t9 : Fin (k0_t9_loop i k0_t7).trips) : BitVec 32 :=
  let c0_i32_1769 : BitVec 32 := 0#32
  let c8_i32_1766 : BitVec 32 := 8#32
  let arg1 : BitVec 32 := BitVec.ofNat 32 (i 1).val
  let c16_i32_1765 : BitVec 32 := 16#32
  let v2612 : BitVec 32 := Scalar.muli arg1 c16_i32_1765
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c0_i32_1764 : BitVec 32 := 0#32
  let v2611 : BitVec 32 := Scalar.addi v2100 c0_i32_1764
  let v2613 : BitVec 32 := Scalar.addi v2612 v2611
  let v2614 : BitVec 32 := Scalar.subi c8_i32_1766 v2613
  let c0_i32_1767 : BitVec 32 := 0#32
  let v2615 : BitVec 32 := Scalar.maxsi v2614 c0_i32_1767
  let v2616 : BitVec 32 := Scalar.subi v2615 c0_i32_1769
  let c1_i32_1770 : BitVec 32 := 1#32
  let v2618 : BitVec 32 := Scalar.divsi v2616 c1_i32_1770
  let v2619 : BitVec 32 := Scalar.muli v2618 c1_i32_1770
  let v2620 : BitVec 32 := Scalar.addi c0_i32_1769 v2619
  let c1_i32_1772 : BitVec 32 := 1#32
  let arg19 : BitVec 32 := Scf.iv v2620 c1_i32_1772 k0_t9
  let c64_i32_2120 : BitVec 32 := 64#32
  let v3147 : BitVec 32 := Scalar.muli arg19 c64_i32_2120
  v3147
def k0_off42 (i : grid0.Coords) (k0_t7 : Fin k0_t7_loop.trips) (k0_t9 : Fin (k0_t9_loop i k0_t7).trips) : Fin 4 → Nat :=
  let c1_2122 : Index := 1#32
  let c0_2123 : Index := 0#32
  let c0_i32_1769 : BitVec 32 := 0#32
  let c8_i32_1766 : BitVec 32 := 8#32
  let arg1 : BitVec 32 := BitVec.ofNat 32 (i 1).val
  let c16_i32_1765 : BitVec 32 := 16#32
  let v2612 : BitVec 32 := Scalar.muli arg1 c16_i32_1765
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c0_i32_1764 : BitVec 32 := 0#32
  let v2611 : BitVec 32 := Scalar.addi v2100 c0_i32_1764
  let v2613 : BitVec 32 := Scalar.addi v2612 v2611
  let v2614 : BitVec 32 := Scalar.subi c8_i32_1766 v2613
  let c0_i32_1767 : BitVec 32 := 0#32
  let v2615 : BitVec 32 := Scalar.maxsi v2614 c0_i32_1767
  let v2616 : BitVec 32 := Scalar.subi v2615 c0_i32_1769
  let c1_i32_1770 : BitVec 32 := 1#32
  let v2618 : BitVec 32 := Scalar.divsi v2616 c1_i32_1770
  let v2619 : BitVec 32 := Scalar.muli v2618 c1_i32_1770
  let v2620 : BitVec 32 := Scalar.addi c0_i32_1769 v2619
  let c1_i32_1772 : BitVec 32 := 1#32
  let arg19 : BitVec 32 := Scf.iv v2620 c1_i32_1772 k0_t9
  let c64_i32_2120 : BitVec 32 := 64#32
  let v3147 : BitVec 32 := Scalar.muli arg19 c64_i32_2120
  let v3148 : BitVec 32 := v3147
  let v3150 : Index := Scalar.indexCast v3148
  let c0_2124 : Index := 0#32
  ![1, 0, v3150.toNat, 0]
def k0_off43 (i : grid0.Coords) (k0_t7 : Fin k0_t7_loop.trips) (k0_t9 : Fin (k0_t9_loop i k0_t7).trips) : Fin 4 → Nat :=
  let c1_2126 : Index := 1#32
  let c1_2127 : Index := 1#32
  let c0_i32_1769 : BitVec 32 := 0#32
  let c8_i32_1766 : BitVec 32 := 8#32
  let arg1 : BitVec 32 := BitVec.ofNat 32 (i 1).val
  let c16_i32_1765 : BitVec 32 := 16#32
  let v2612 : BitVec 32 := Scalar.muli arg1 c16_i32_1765
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c0_i32_1764 : BitVec 32 := 0#32
  let v2611 : BitVec 32 := Scalar.addi v2100 c0_i32_1764
  let v2613 : BitVec 32 := Scalar.addi v2612 v2611
  let v2614 : BitVec 32 := Scalar.subi c8_i32_1766 v2613
  let c0_i32_1767 : BitVec 32 := 0#32
  let v2615 : BitVec 32 := Scalar.maxsi v2614 c0_i32_1767
  let v2616 : BitVec 32 := Scalar.subi v2615 c0_i32_1769
  let c1_i32_1770 : BitVec 32 := 1#32
  let v2618 : BitVec 32 := Scalar.divsi v2616 c1_i32_1770
  let v2619 : BitVec 32 := Scalar.muli v2618 c1_i32_1770
  let v2620 : BitVec 32 := Scalar.addi c0_i32_1769 v2619
  let c1_i32_1772 : BitVec 32 := 1#32
  let arg19 : BitVec 32 := Scf.iv v2620 c1_i32_1772 k0_t9
  let c64_i32_2120 : BitVec 32 := 64#32
  let v3147 : BitVec 32 := Scalar.muli arg19 c64_i32_2120
  let v3148 : BitVec 32 := v3147
  let v3155 : Index := Scalar.indexCast v3148
  let c0_2128 : Index := 0#32
  ![1, 1, v3155.toNat, 0]
def k0_off44 (i : grid0.Coords) (k0_t7 : Fin k0_t7_loop.trips) (k0_t9 : Fin (k0_t9_loop i k0_t7).trips) : Fin 4 → Nat :=
  let c1_2130 : Index := 1#32
  let c2_2131 : Index := 2#32
  let c0_i32_1769 : BitVec 32 := 0#32
  let c8_i32_1766 : BitVec 32 := 8#32
  let arg1 : BitVec 32 := BitVec.ofNat 32 (i 1).val
  let c16_i32_1765 : BitVec 32 := 16#32
  let v2612 : BitVec 32 := Scalar.muli arg1 c16_i32_1765
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c0_i32_1764 : BitVec 32 := 0#32
  let v2611 : BitVec 32 := Scalar.addi v2100 c0_i32_1764
  let v2613 : BitVec 32 := Scalar.addi v2612 v2611
  let v2614 : BitVec 32 := Scalar.subi c8_i32_1766 v2613
  let c0_i32_1767 : BitVec 32 := 0#32
  let v2615 : BitVec 32 := Scalar.maxsi v2614 c0_i32_1767
  let v2616 : BitVec 32 := Scalar.subi v2615 c0_i32_1769
  let c1_i32_1770 : BitVec 32 := 1#32
  let v2618 : BitVec 32 := Scalar.divsi v2616 c1_i32_1770
  let v2619 : BitVec 32 := Scalar.muli v2618 c1_i32_1770
  let v2620 : BitVec 32 := Scalar.addi c0_i32_1769 v2619
  let c1_i32_1772 : BitVec 32 := 1#32
  let arg19 : BitVec 32 := Scf.iv v2620 c1_i32_1772 k0_t9
  let c64_i32_2120 : BitVec 32 := 64#32
  let v3147 : BitVec 32 := Scalar.muli arg19 c64_i32_2120
  let v3148 : BitVec 32 := v3147
  let v3160 : Index := Scalar.indexCast v3148
  let c0_2132 : Index := 0#32
  ![1, 2, v3160.toNat, 0]
def k0_off45 (i : grid0.Coords) (k0_t7 : Fin k0_t7_loop.trips) (k0_t9 : Fin (k0_t9_loop i k0_t7).trips) : Fin 4 → Nat :=
  let c1_2134 : Index := 1#32
  let c3_2135 : Index := 3#32
  let c0_i32_1769 : BitVec 32 := 0#32
  let c8_i32_1766 : BitVec 32 := 8#32
  let arg1 : BitVec 32 := BitVec.ofNat 32 (i 1).val
  let c16_i32_1765 : BitVec 32 := 16#32
  let v2612 : BitVec 32 := Scalar.muli arg1 c16_i32_1765
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c0_i32_1764 : BitVec 32 := 0#32
  let v2611 : BitVec 32 := Scalar.addi v2100 c0_i32_1764
  let v2613 : BitVec 32 := Scalar.addi v2612 v2611
  let v2614 : BitVec 32 := Scalar.subi c8_i32_1766 v2613
  let c0_i32_1767 : BitVec 32 := 0#32
  let v2615 : BitVec 32 := Scalar.maxsi v2614 c0_i32_1767
  let v2616 : BitVec 32 := Scalar.subi v2615 c0_i32_1769
  let c1_i32_1770 : BitVec 32 := 1#32
  let v2618 : BitVec 32 := Scalar.divsi v2616 c1_i32_1770
  let v2619 : BitVec 32 := Scalar.muli v2618 c1_i32_1770
  let v2620 : BitVec 32 := Scalar.addi c0_i32_1769 v2619
  let c1_i32_1772 : BitVec 32 := 1#32
  let arg19 : BitVec 32 := Scf.iv v2620 c1_i32_1772 k0_t9
  let c64_i32_2120 : BitVec 32 := 64#32
  let v3147 : BitVec 32 := Scalar.muli arg19 c64_i32_2120
  let v3148 : BitVec 32 := v3147
  let v3165 : Index := Scalar.indexCast v3148
  let c0_2136 : Index := 0#32
  ![1, 3, v3165.toNat, 0]
def k0_mult12 (k0_t7 : Fin k0_t7_loop.trips) : BitVec 32 :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c1_i32_1775 : BitVec 32 := 1#32
  let v2624 : BitVec 32 := Scalar.addi v2100 c1_i32_1775
  let c64_i32_1776 : BitVec 32 := 64#32
  let v2625 : BitVec 32 := Scalar.muli v2624 c64_i32_1776
  v2625
def k0_mult13 (k0_t7 : Fin k0_t7_loop.trips) : BitVec 32 :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c1_i32_1981 : BitVec 32 := 1#32
  let v2883 : BitVec 32 := Scalar.addi v2100 c1_i32_1981
  let c2_i32_1982 : BitVec 32 := 2#32
  let v2884 : BitVec 32 := Scalar.subi v2883 c2_i32_1982
  let c64_i32_1983 : BitVec 32 := 64#32
  let v2885 : BitVec 32 := Scalar.muli v2884 c64_i32_1983
  v2885
def k0_mult14 (k0_t7 : Fin k0_t7_loop.trips) : BitVec 32 :=
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c1_i32_2068 : BitVec 32 := 1#32
  let v2999 : BitVec 32 := Scalar.addi v2100 c1_i32_2068
  let c3_i32_2069 : BitVec 32 := 3#32
  let v3000 : BitVec 32 := Scalar.subi v2999 c3_i32_2069
  let c64_i32_2070 : BitVec 32 := 64#32
  let v3001 : BitVec 32 := Scalar.muli v3000 c64_i32_2070
  v3001
@[reducible] def k0_t10_loop (i : grid0.Coords) (k0_t7 : Fin k0_t7_loop.trips) : Scf.Loop 32 :=
  let c0_i32_2114 : BitVec 32 := 0#32
  let c8_i32_2111 : BitVec 32 := 8#32
  let arg1 : BitVec 32 := BitVec.ofNat 32 (i 1).val
  let c16_i32_2110 : BitVec 32 := 16#32
  let v3135 : BitVec 32 := Scalar.muli arg1 c16_i32_2110
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c1_i32_2109 : BitVec 32 := 1#32
  let v3134 : BitVec 32 := Scalar.addi v2100 c1_i32_2109
  let v3136 : BitVec 32 := Scalar.addi v3135 v3134
  let v3137 : BitVec 32 := Scalar.subi c8_i32_2111 v3136
  let c0_i32_2112 : BitVec 32 := 0#32
  let v3138 : BitVec 32 := Scalar.maxsi v3137 c0_i32_2112
  let v3139 : BitVec 32 := Scalar.subi v3138 c0_i32_2114
  let c1_i32_2115 : BitVec 32 := 1#32
  let v3141 : BitVec 32 := Scalar.divsi v3139 c1_i32_2115
  let v3142 : BitVec 32 := Scalar.muli v3141 c1_i32_2115
  let v3143 : BitVec 32 := Scalar.addi c0_i32_2114 v3142
  let c1_i32_2116 : BitVec 32 := 1#32
  ⟨c0_i32_2114, v3143, c1_i32_2116⟩
def k0_mult15 (i : grid0.Coords) (k0_t7 : Fin k0_t7_loop.trips) (k0_t10 : Fin (k0_t10_loop i k0_t7).trips) : BitVec 32 :=
  let c0_i32_2114 : BitVec 32 := 0#32
  let c1_i32_2116 : BitVec 32 := 1#32
  let arg19 : BitVec 32 := Scf.iv c0_i32_2114 c1_i32_2116 k0_t10
  let c64_i32_2120 : BitVec 32 := 64#32
  let v3147 : BitVec 32 := Scalar.muli arg19 c64_i32_2120
  v3147
def k0_off46 (i : grid0.Coords) (k0_t7 : Fin k0_t7_loop.trips) (k0_t10 : Fin (k0_t10_loop i k0_t7).trips) : Fin 4 → Nat :=
  let c0_2122 : Index := 0#32
  let c0_2123 : Index := 0#32
  let c0_i32_2114 : BitVec 32 := 0#32
  let c1_i32_2116 : BitVec 32 := 1#32
  let arg19 : BitVec 32 := Scf.iv c0_i32_2114 c1_i32_2116 k0_t10
  let c64_i32_2120 : BitVec 32 := 64#32
  let v3147 : BitVec 32 := Scalar.muli arg19 c64_i32_2120
  let v3148 : BitVec 32 := v3147
  let v3150 : Index := Scalar.indexCast v3148
  let c0_2124 : Index := 0#32
  ![0, 0, v3150.toNat, 0]
def k0_off47 (i : grid0.Coords) (k0_t7 : Fin k0_t7_loop.trips) (k0_t10 : Fin (k0_t10_loop i k0_t7).trips) : Fin 4 → Nat :=
  let c0_2126 : Index := 0#32
  let c1_2127 : Index := 1#32
  let c0_i32_2114 : BitVec 32 := 0#32
  let c1_i32_2116 : BitVec 32 := 1#32
  let arg19 : BitVec 32 := Scf.iv c0_i32_2114 c1_i32_2116 k0_t10
  let c64_i32_2120 : BitVec 32 := 64#32
  let v3147 : BitVec 32 := Scalar.muli arg19 c64_i32_2120
  let v3148 : BitVec 32 := v3147
  let v3155 : Index := Scalar.indexCast v3148
  let c0_2128 : Index := 0#32
  ![0, 1, v3155.toNat, 0]
def k0_off48 (i : grid0.Coords) (k0_t7 : Fin k0_t7_loop.trips) (k0_t10 : Fin (k0_t10_loop i k0_t7).trips) : Fin 4 → Nat :=
  let c0_2130 : Index := 0#32
  let c2_2131 : Index := 2#32
  let c0_i32_2114 : BitVec 32 := 0#32
  let c1_i32_2116 : BitVec 32 := 1#32
  let arg19 : BitVec 32 := Scf.iv c0_i32_2114 c1_i32_2116 k0_t10
  let c64_i32_2120 : BitVec 32 := 64#32
  let v3147 : BitVec 32 := Scalar.muli arg19 c64_i32_2120
  let v3148 : BitVec 32 := v3147
  let v3160 : Index := Scalar.indexCast v3148
  let c0_2132 : Index := 0#32
  ![0, 2, v3160.toNat, 0]
def k0_off49 (i : grid0.Coords) (k0_t7 : Fin k0_t7_loop.trips) (k0_t10 : Fin (k0_t10_loop i k0_t7).trips) : Fin 4 → Nat :=
  let c0_2134 : Index := 0#32
  let c3_2135 : Index := 3#32
  let c0_i32_2114 : BitVec 32 := 0#32
  let c1_i32_2116 : BitVec 32 := 1#32
  let arg19 : BitVec 32 := Scf.iv c0_i32_2114 c1_i32_2116 k0_t10
  let c64_i32_2120 : BitVec 32 := 64#32
  let v3147 : BitVec 32 := Scalar.muli arg19 c64_i32_2120
  let v3148 : BitVec 32 := v3147
  let v3165 : Index := Scalar.indexCast v3148
  let c0_2136 : Index := 0#32
  ![0, 3, v3165.toNat, 0]
@[reducible] def k0_t11_loop (i : grid0.Coords) (k0_t7 : Fin k0_t7_loop.trips) : Scf.Loop 32 :=
  let c0_i32_2114 : BitVec 32 := 0#32
  let c8_i32_2111 : BitVec 32 := 8#32
  let arg1 : BitVec 32 := BitVec.ofNat 32 (i 1).val
  let c16_i32_2110 : BitVec 32 := 16#32
  let v3135 : BitVec 32 := Scalar.muli arg1 c16_i32_2110
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c1_i32_2109 : BitVec 32 := 1#32
  let v3134 : BitVec 32 := Scalar.addi v2100 c1_i32_2109
  let v3136 : BitVec 32 := Scalar.addi v3135 v3134
  let v3137 : BitVec 32 := Scalar.subi c8_i32_2111 v3136
  let c0_i32_2112 : BitVec 32 := 0#32
  let v3138 : BitVec 32 := Scalar.maxsi v3137 c0_i32_2112
  let v3139 : BitVec 32 := Scalar.subi v3138 c0_i32_2114
  let c1_i32_2115 : BitVec 32 := 1#32
  let v3141 : BitVec 32 := Scalar.divsi v3139 c1_i32_2115
  let v3142 : BitVec 32 := Scalar.muli v3141 c1_i32_2115
  let v3143 : BitVec 32 := Scalar.addi c0_i32_2114 v3142
  let v3140 : BitVec 32 := Scalar.addi c0_i32_2114 v3139
  let c1_i32_2117 : BitVec 32 := 1#32
  ⟨v3143, v3140, c1_i32_2117⟩
def k0_mult16 (i : grid0.Coords) (k0_t7 : Fin k0_t7_loop.trips) (k0_t11 : Fin (k0_t11_loop i k0_t7).trips) : BitVec 32 :=
  let c0_i32_2114 : BitVec 32 := 0#32
  let c8_i32_2111 : BitVec 32 := 8#32
  let arg1 : BitVec 32 := BitVec.ofNat 32 (i 1).val
  let c16_i32_2110 : BitVec 32 := 16#32
  let v3135 : BitVec 32 := Scalar.muli arg1 c16_i32_2110
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c1_i32_2109 : BitVec 32 := 1#32
  let v3134 : BitVec 32 := Scalar.addi v2100 c1_i32_2109
  let v3136 : BitVec 32 := Scalar.addi v3135 v3134
  let v3137 : BitVec 32 := Scalar.subi c8_i32_2111 v3136
  let c0_i32_2112 : BitVec 32 := 0#32
  let v3138 : BitVec 32 := Scalar.maxsi v3137 c0_i32_2112
  let v3139 : BitVec 32 := Scalar.subi v3138 c0_i32_2114
  let c1_i32_2115 : BitVec 32 := 1#32
  let v3141 : BitVec 32 := Scalar.divsi v3139 c1_i32_2115
  let v3142 : BitVec 32 := Scalar.muli v3141 c1_i32_2115
  let v3143 : BitVec 32 := Scalar.addi c0_i32_2114 v3142
  let c1_i32_2117 : BitVec 32 := 1#32
  let arg19 : BitVec 32 := Scf.iv v3143 c1_i32_2117 k0_t11
  let c64_i32_2120 : BitVec 32 := 64#32
  let v3147 : BitVec 32 := Scalar.muli arg19 c64_i32_2120
  v3147
def k0_off50 (i : grid0.Coords) (k0_t7 : Fin k0_t7_loop.trips) (k0_t11 : Fin (k0_t11_loop i k0_t7).trips) : Fin 4 → Nat :=
  let c0_2122 : Index := 0#32
  let c0_2123 : Index := 0#32
  let c0_i32_2114 : BitVec 32 := 0#32
  let c8_i32_2111 : BitVec 32 := 8#32
  let arg1 : BitVec 32 := BitVec.ofNat 32 (i 1).val
  let c16_i32_2110 : BitVec 32 := 16#32
  let v3135 : BitVec 32 := Scalar.muli arg1 c16_i32_2110
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c1_i32_2109 : BitVec 32 := 1#32
  let v3134 : BitVec 32 := Scalar.addi v2100 c1_i32_2109
  let v3136 : BitVec 32 := Scalar.addi v3135 v3134
  let v3137 : BitVec 32 := Scalar.subi c8_i32_2111 v3136
  let c0_i32_2112 : BitVec 32 := 0#32
  let v3138 : BitVec 32 := Scalar.maxsi v3137 c0_i32_2112
  let v3139 : BitVec 32 := Scalar.subi v3138 c0_i32_2114
  let c1_i32_2115 : BitVec 32 := 1#32
  let v3141 : BitVec 32 := Scalar.divsi v3139 c1_i32_2115
  let v3142 : BitVec 32 := Scalar.muli v3141 c1_i32_2115
  let v3143 : BitVec 32 := Scalar.addi c0_i32_2114 v3142
  let c1_i32_2117 : BitVec 32 := 1#32
  let arg19 : BitVec 32 := Scf.iv v3143 c1_i32_2117 k0_t11
  let c64_i32_2120 : BitVec 32 := 64#32
  let v3147 : BitVec 32 := Scalar.muli arg19 c64_i32_2120
  let v3148 : BitVec 32 := v3147
  let v3150 : Index := Scalar.indexCast v3148
  let c0_2124 : Index := 0#32
  ![0, 0, v3150.toNat, 0]
def k0_off51 (i : grid0.Coords) (k0_t7 : Fin k0_t7_loop.trips) (k0_t11 : Fin (k0_t11_loop i k0_t7).trips) : Fin 4 → Nat :=
  let c0_2126 : Index := 0#32
  let c1_2127 : Index := 1#32
  let c0_i32_2114 : BitVec 32 := 0#32
  let c8_i32_2111 : BitVec 32 := 8#32
  let arg1 : BitVec 32 := BitVec.ofNat 32 (i 1).val
  let c16_i32_2110 : BitVec 32 := 16#32
  let v3135 : BitVec 32 := Scalar.muli arg1 c16_i32_2110
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c1_i32_2109 : BitVec 32 := 1#32
  let v3134 : BitVec 32 := Scalar.addi v2100 c1_i32_2109
  let v3136 : BitVec 32 := Scalar.addi v3135 v3134
  let v3137 : BitVec 32 := Scalar.subi c8_i32_2111 v3136
  let c0_i32_2112 : BitVec 32 := 0#32
  let v3138 : BitVec 32 := Scalar.maxsi v3137 c0_i32_2112
  let v3139 : BitVec 32 := Scalar.subi v3138 c0_i32_2114
  let c1_i32_2115 : BitVec 32 := 1#32
  let v3141 : BitVec 32 := Scalar.divsi v3139 c1_i32_2115
  let v3142 : BitVec 32 := Scalar.muli v3141 c1_i32_2115
  let v3143 : BitVec 32 := Scalar.addi c0_i32_2114 v3142
  let c1_i32_2117 : BitVec 32 := 1#32
  let arg19 : BitVec 32 := Scf.iv v3143 c1_i32_2117 k0_t11
  let c64_i32_2120 : BitVec 32 := 64#32
  let v3147 : BitVec 32 := Scalar.muli arg19 c64_i32_2120
  let v3148 : BitVec 32 := v3147
  let v3155 : Index := Scalar.indexCast v3148
  let c0_2128 : Index := 0#32
  ![0, 1, v3155.toNat, 0]
def k0_off52 (i : grid0.Coords) (k0_t7 : Fin k0_t7_loop.trips) (k0_t11 : Fin (k0_t11_loop i k0_t7).trips) : Fin 4 → Nat :=
  let c0_2130 : Index := 0#32
  let c2_2131 : Index := 2#32
  let c0_i32_2114 : BitVec 32 := 0#32
  let c8_i32_2111 : BitVec 32 := 8#32
  let arg1 : BitVec 32 := BitVec.ofNat 32 (i 1).val
  let c16_i32_2110 : BitVec 32 := 16#32
  let v3135 : BitVec 32 := Scalar.muli arg1 c16_i32_2110
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c1_i32_2109 : BitVec 32 := 1#32
  let v3134 : BitVec 32 := Scalar.addi v2100 c1_i32_2109
  let v3136 : BitVec 32 := Scalar.addi v3135 v3134
  let v3137 : BitVec 32 := Scalar.subi c8_i32_2111 v3136
  let c0_i32_2112 : BitVec 32 := 0#32
  let v3138 : BitVec 32 := Scalar.maxsi v3137 c0_i32_2112
  let v3139 : BitVec 32 := Scalar.subi v3138 c0_i32_2114
  let c1_i32_2115 : BitVec 32 := 1#32
  let v3141 : BitVec 32 := Scalar.divsi v3139 c1_i32_2115
  let v3142 : BitVec 32 := Scalar.muli v3141 c1_i32_2115
  let v3143 : BitVec 32 := Scalar.addi c0_i32_2114 v3142
  let c1_i32_2117 : BitVec 32 := 1#32
  let arg19 : BitVec 32 := Scf.iv v3143 c1_i32_2117 k0_t11
  let c64_i32_2120 : BitVec 32 := 64#32
  let v3147 : BitVec 32 := Scalar.muli arg19 c64_i32_2120
  let v3148 : BitVec 32 := v3147
  let v3160 : Index := Scalar.indexCast v3148
  let c0_2132 : Index := 0#32
  ![0, 2, v3160.toNat, 0]
def k0_off53 (i : grid0.Coords) (k0_t7 : Fin k0_t7_loop.trips) (k0_t11 : Fin (k0_t11_loop i k0_t7).trips) : Fin 4 → Nat :=
  let c0_2134 : Index := 0#32
  let c3_2135 : Index := 3#32
  let c0_i32_2114 : BitVec 32 := 0#32
  let c8_i32_2111 : BitVec 32 := 8#32
  let arg1 : BitVec 32 := BitVec.ofNat 32 (i 1).val
  let c16_i32_2110 : BitVec 32 := 16#32
  let v3135 : BitVec 32 := Scalar.muli arg1 c16_i32_2110
  let c3_i32_1429 : BitVec 32 := 3#32
  let c2_i32_1428 : BitVec 32 := 2#32
  let c0_i32_650 : BitVec 32 := 0#32
  let c1_i32_651 : BitVec 32 := 1#32
  let arg18 : BitVec 32 := Scf.iv c0_i32_650 c1_i32_651 k0_t7
  let v2099 : BitVec 32 := Scalar.muli c2_i32_1428 arg18
  let v2100 : BitVec 32 := Scalar.addi c3_i32_1429 v2099
  let c1_i32_2109 : BitVec 32 := 1#32
  let v3134 : BitVec 32 := Scalar.addi v2100 c1_i32_2109
  let v3136 : BitVec 32 := Scalar.addi v3135 v3134
  let v3137 : BitVec 32 := Scalar.subi c8_i32_2111 v3136
  let c0_i32_2112 : BitVec 32 := 0#32
  let v3138 : BitVec 32 := Scalar.maxsi v3137 c0_i32_2112
  let v3139 : BitVec 32 := Scalar.subi v3138 c0_i32_2114
  let c1_i32_2115 : BitVec 32 := 1#32
  let v3141 : BitVec 32 := Scalar.divsi v3139 c1_i32_2115
  let v3142 : BitVec 32 := Scalar.muli v3141 c1_i32_2115
  let v3143 : BitVec 32 := Scalar.addi c0_i32_2114 v3142
  let c1_i32_2117 : BitVec 32 := 1#32
  let arg19 : BitVec 32 := Scf.iv v3143 c1_i32_2117 k0_t11
  let c64_i32_2120 : BitVec 32 := 64#32
  let v3147 : BitVec 32 := Scalar.muli arg19 c64_i32_2120
  let v3148 : BitVec 32 := v3147
  let v3165 : Index := Scalar.indexCast v3148
  let c0_2136 : Index := 0#32
  ![0, 3, v3165.toNat, 0]
@[reducible] def k0_t12_loop (i : grid0.Coords) : Scf.Loop 32 :=
  let c0_i32_994 : BitVec 32 := 0#32
  let c8_i32_991 : BitVec 32 := 8#32
  let arg1 : BitVec 32 := BitVec.ofNat 32 (i 1).val
  let c16_i32_990 : BitVec 32 := 16#32
  let v1313 : BitVec 32 := Scalar.muli arg1 c16_i32_990
  let c15_i32 : BitVec 32 := 15#32
  let v1314 : BitVec 32 := Scalar.addi v1313 c15_i32
  let v1315 : BitVec 32 := Scalar.subi c8_i32_991 v1314
  let c0_i32_992 : BitVec 32 := 0#32
  let v1316 : BitVec 32 := Scalar.maxsi v1315 c0_i32_992
  let v1317 : BitVec 32 := Scalar.subi v1316 c0_i32_994
  let c1_i32_995 : BitVec 32 := 1#32
  let v1319 : BitVec 32 := Scalar.divsi v1317 c1_i32_995
  let v1320 : BitVec 32 := Scalar.muli v1319 c1_i32_995
  let v1321 : BitVec 32 := Scalar.addi c0_i32_994 v1320
  let c1_i32_996 : BitVec 32 := 1#32
  ⟨c0_i32_994, v1321, c1_i32_996⟩
def k0_mult17 (i : grid0.Coords) (k0_t12 : Fin (k0_t12_loop i).trips) : BitVec 32 :=
  let c0_i32_994 : BitVec 32 := 0#32
  let c1_i32_996 : BitVec 32 := 1#32
  let arg18 : BitVec 32 := Scf.iv c0_i32_994 c1_i32_996 k0_t12
  let c64_i32_1428 : BitVec 32 := 64#32
  let v2099 : BitVec 32 := Scalar.muli arg18 c64_i32_1428
  v2099
def k0_off54 (i : grid0.Coords) (k0_t12 : Fin (k0_t12_loop i).trips) : Fin 4 → Nat :=
  let c1_1430 : Index := 1#32
  let c0_1431 : Index := 0#32
  let c0_i32_994 : BitVec 32 := 0#32
  let c1_i32_996 : BitVec 32 := 1#32
  let arg18 : BitVec 32 := Scf.iv c0_i32_994 c1_i32_996 k0_t12
  let c64_i32_1428 : BitVec 32 := 64#32
  let v2099 : BitVec 32 := Scalar.muli arg18 c64_i32_1428
  let v2100 : BitVec 32 := v2099
  let v2102 : Index := Scalar.indexCast v2100
  let c0_1432 : Index := 0#32
  ![1, 0, v2102.toNat, 0]
def k0_off55 (i : grid0.Coords) (k0_t12 : Fin (k0_t12_loop i).trips) : Fin 4 → Nat :=
  let c1_1434 : Index := 1#32
  let c1_1435 : Index := 1#32
  let c0_i32_994 : BitVec 32 := 0#32
  let c1_i32_996 : BitVec 32 := 1#32
  let arg18 : BitVec 32 := Scf.iv c0_i32_994 c1_i32_996 k0_t12
  let c64_i32_1428 : BitVec 32 := 64#32
  let v2099 : BitVec 32 := Scalar.muli arg18 c64_i32_1428
  let v2100 : BitVec 32 := v2099
  let v2107 : Index := Scalar.indexCast v2100
  let c0_1436 : Index := 0#32
  ![1, 1, v2107.toNat, 0]
def k0_off56 (i : grid0.Coords) (k0_t12 : Fin (k0_t12_loop i).trips) : Fin 4 → Nat :=
  let c1_1438 : Index := 1#32
  let c2_1439 : Index := 2#32
  let c0_i32_994 : BitVec 32 := 0#32
  let c1_i32_996 : BitVec 32 := 1#32
  let arg18 : BitVec 32 := Scf.iv c0_i32_994 c1_i32_996 k0_t12
  let c64_i32_1428 : BitVec 32 := 64#32
  let v2099 : BitVec 32 := Scalar.muli arg18 c64_i32_1428
  let v2100 : BitVec 32 := v2099
  let v2112 : Index := Scalar.indexCast v2100
  let c0_1440 : Index := 0#32
  ![1, 2, v2112.toNat, 0]
def k0_off57 (i : grid0.Coords) (k0_t12 : Fin (k0_t12_loop i).trips) : Fin 4 → Nat :=
  let c1_1442 : Index := 1#32
  let c3_1443 : Index := 3#32
  let c0_i32_994 : BitVec 32 := 0#32
  let c1_i32_996 : BitVec 32 := 1#32
  let arg18 : BitVec 32 := Scf.iv c0_i32_994 c1_i32_996 k0_t12
  let c64_i32_1428 : BitVec 32 := 64#32
  let v2099 : BitVec 32 := Scalar.muli arg18 c64_i32_1428
  let v2100 : BitVec 32 := v2099
  let v2117 : Index := Scalar.indexCast v2100
  let c0_1444 : Index := 0#32
  ![1, 3, v2117.toNat, 0]
@[reducible] def k0_t13_loop (i : grid0.Coords) : Scf.Loop 32 :=
  let c0_i32_994 : BitVec 32 := 0#32
  let c8_i32_991 : BitVec 32 := 8#32
  let arg1 : BitVec 32 := BitVec.ofNat 32 (i 1).val
  let c16_i32_990 : BitVec 32 := 16#32
  let v1313 : BitVec 32 := Scalar.muli arg1 c16_i32_990
  let c15_i32 : BitVec 32 := 15#32
  let v1314 : BitVec 32 := Scalar.addi v1313 c15_i32
  let v1315 : BitVec 32 := Scalar.subi c8_i32_991 v1314
  let c0_i32_992 : BitVec 32 := 0#32
  let v1316 : BitVec 32 := Scalar.maxsi v1315 c0_i32_992
  let v1317 : BitVec 32 := Scalar.subi v1316 c0_i32_994
  let c1_i32_995 : BitVec 32 := 1#32
  let v1319 : BitVec 32 := Scalar.divsi v1317 c1_i32_995
  let v1320 : BitVec 32 := Scalar.muli v1319 c1_i32_995
  let v1321 : BitVec 32 := Scalar.addi c0_i32_994 v1320
  let v1318 : BitVec 32 := Scalar.addi c0_i32_994 v1317
  let c1_i32_997 : BitVec 32 := 1#32
  ⟨v1321, v1318, c1_i32_997⟩
def k0_mult18 (i : grid0.Coords) (k0_t13 : Fin (k0_t13_loop i).trips) : BitVec 32 :=
  let c0_i32_994 : BitVec 32 := 0#32
  let c8_i32_991 : BitVec 32 := 8#32
  let arg1 : BitVec 32 := BitVec.ofNat 32 (i 1).val
  let c16_i32_990 : BitVec 32 := 16#32
  let v1313 : BitVec 32 := Scalar.muli arg1 c16_i32_990
  let c15_i32 : BitVec 32 := 15#32
  let v1314 : BitVec 32 := Scalar.addi v1313 c15_i32
  let v1315 : BitVec 32 := Scalar.subi c8_i32_991 v1314
  let c0_i32_992 : BitVec 32 := 0#32
  let v1316 : BitVec 32 := Scalar.maxsi v1315 c0_i32_992
  let v1317 : BitVec 32 := Scalar.subi v1316 c0_i32_994
  let c1_i32_995 : BitVec 32 := 1#32
  let v1319 : BitVec 32 := Scalar.divsi v1317 c1_i32_995
  let v1320 : BitVec 32 := Scalar.muli v1319 c1_i32_995
  let v1321 : BitVec 32 := Scalar.addi c0_i32_994 v1320
  let c1_i32_997 : BitVec 32 := 1#32
  let arg18 : BitVec 32 := Scf.iv v1321 c1_i32_997 k0_t13
  let c64_i32_1428 : BitVec 32 := 64#32
  let v2099 : BitVec 32 := Scalar.muli arg18 c64_i32_1428
  v2099
def k0_off58 (i : grid0.Coords) (k0_t13 : Fin (k0_t13_loop i).trips) : Fin 4 → Nat :=
  let c1_1430 : Index := 1#32
  let c0_1431 : Index := 0#32
  let c0_i32_994 : BitVec 32 := 0#32
  let c8_i32_991 : BitVec 32 := 8#32
  let arg1 : BitVec 32 := BitVec.ofNat 32 (i 1).val
  let c16_i32_990 : BitVec 32 := 16#32
  let v1313 : BitVec 32 := Scalar.muli arg1 c16_i32_990
  let c15_i32 : BitVec 32 := 15#32
  let v1314 : BitVec 32 := Scalar.addi v1313 c15_i32
  let v1315 : BitVec 32 := Scalar.subi c8_i32_991 v1314
  let c0_i32_992 : BitVec 32 := 0#32
  let v1316 : BitVec 32 := Scalar.maxsi v1315 c0_i32_992
  let v1317 : BitVec 32 := Scalar.subi v1316 c0_i32_994
  let c1_i32_995 : BitVec 32 := 1#32
  let v1319 : BitVec 32 := Scalar.divsi v1317 c1_i32_995
  let v1320 : BitVec 32 := Scalar.muli v1319 c1_i32_995
  let v1321 : BitVec 32 := Scalar.addi c0_i32_994 v1320
  let c1_i32_997 : BitVec 32 := 1#32
  let arg18 : BitVec 32 := Scf.iv v1321 c1_i32_997 k0_t13
  let c64_i32_1428 : BitVec 32 := 64#32
  let v2099 : BitVec 32 := Scalar.muli arg18 c64_i32_1428
  let v2100 : BitVec 32 := v2099
  let v2102 : Index := Scalar.indexCast v2100
  let c0_1432 : Index := 0#32
  ![1, 0, v2102.toNat, 0]
def k0_off59 (i : grid0.Coords) (k0_t13 : Fin (k0_t13_loop i).trips) : Fin 4 → Nat :=
  let c1_1434 : Index := 1#32
  let c1_1435 : Index := 1#32
  let c0_i32_994 : BitVec 32 := 0#32
  let c8_i32_991 : BitVec 32 := 8#32
  let arg1 : BitVec 32 := BitVec.ofNat 32 (i 1).val
  let c16_i32_990 : BitVec 32 := 16#32
  let v1313 : BitVec 32 := Scalar.muli arg1 c16_i32_990
  let c15_i32 : BitVec 32 := 15#32
  let v1314 : BitVec 32 := Scalar.addi v1313 c15_i32
  let v1315 : BitVec 32 := Scalar.subi c8_i32_991 v1314
  let c0_i32_992 : BitVec 32 := 0#32
  let v1316 : BitVec 32 := Scalar.maxsi v1315 c0_i32_992
  let v1317 : BitVec 32 := Scalar.subi v1316 c0_i32_994
  let c1_i32_995 : BitVec 32 := 1#32
  let v1319 : BitVec 32 := Scalar.divsi v1317 c1_i32_995
  let v1320 : BitVec 32 := Scalar.muli v1319 c1_i32_995
  let v1321 : BitVec 32 := Scalar.addi c0_i32_994 v1320
  let c1_i32_997 : BitVec 32 := 1#32
  let arg18 : BitVec 32 := Scf.iv v1321 c1_i32_997 k0_t13
  let c64_i32_1428 : BitVec 32 := 64#32
  let v2099 : BitVec 32 := Scalar.muli arg18 c64_i32_1428
  let v2100 : BitVec 32 := v2099
  let v2107 : Index := Scalar.indexCast v2100
  let c0_1436 : Index := 0#32
  ![1, 1, v2107.toNat, 0]
def k0_off60 (i : grid0.Coords) (k0_t13 : Fin (k0_t13_loop i).trips) : Fin 4 → Nat :=
  let c1_1438 : Index := 1#32
  let c2_1439 : Index := 2#32
  let c0_i32_994 : BitVec 32 := 0#32
  let c8_i32_991 : BitVec 32 := 8#32
  let arg1 : BitVec 32 := BitVec.ofNat 32 (i 1).val
  let c16_i32_990 : BitVec 32 := 16#32
  let v1313 : BitVec 32 := Scalar.muli arg1 c16_i32_990
  let c15_i32 : BitVec 32 := 15#32
  let v1314 : BitVec 32 := Scalar.addi v1313 c15_i32
  let v1315 : BitVec 32 := Scalar.subi c8_i32_991 v1314
  let c0_i32_992 : BitVec 32 := 0#32
  let v1316 : BitVec 32 := Scalar.maxsi v1315 c0_i32_992
  let v1317 : BitVec 32 := Scalar.subi v1316 c0_i32_994
  let c1_i32_995 : BitVec 32 := 1#32
  let v1319 : BitVec 32 := Scalar.divsi v1317 c1_i32_995
  let v1320 : BitVec 32 := Scalar.muli v1319 c1_i32_995
  let v1321 : BitVec 32 := Scalar.addi c0_i32_994 v1320
  let c1_i32_997 : BitVec 32 := 1#32
  let arg18 : BitVec 32 := Scf.iv v1321 c1_i32_997 k0_t13
  let c64_i32_1428 : BitVec 32 := 64#32
  let v2099 : BitVec 32 := Scalar.muli arg18 c64_i32_1428
  let v2100 : BitVec 32 := v2099
  let v2112 : Index := Scalar.indexCast v2100
  let c0_1440 : Index := 0#32
  ![1, 2, v2112.toNat, 0]
def k0_off61 (i : grid0.Coords) (k0_t13 : Fin (k0_t13_loop i).trips) : Fin 4 → Nat :=
  let c1_1442 : Index := 1#32
  let c3_1443 : Index := 3#32
  let c0_i32_994 : BitVec 32 := 0#32
  let c8_i32_991 : BitVec 32 := 8#32
  let arg1 : BitVec 32 := BitVec.ofNat 32 (i 1).val
  let c16_i32_990 : BitVec 32 := 16#32
  let v1313 : BitVec 32 := Scalar.muli arg1 c16_i32_990
  let c15_i32 : BitVec 32 := 15#32
  let v1314 : BitVec 32 := Scalar.addi v1313 c15_i32
  let v1315 : BitVec 32 := Scalar.subi c8_i32_991 v1314
  let c0_i32_992 : BitVec 32 := 0#32
  let v1316 : BitVec 32 := Scalar.maxsi v1315 c0_i32_992
  let v1317 : BitVec 32 := Scalar.subi v1316 c0_i32_994
  let c1_i32_995 : BitVec 32 := 1#32
  let v1319 : BitVec 32 := Scalar.divsi v1317 c1_i32_995
  let v1320 : BitVec 32 := Scalar.muli v1319 c1_i32_995
  let v1321 : BitVec 32 := Scalar.addi c0_i32_994 v1320
  let c1_i32_997 : BitVec 32 := 1#32
  let arg18 : BitVec 32 := Scf.iv v1321 c1_i32_997 k0_t13
  let c64_i32_1428 : BitVec 32 := 64#32
  let v2099 : BitVec 32 := Scalar.muli arg18 c64_i32_1428
  let v2100 : BitVec 32 := v2099
  let v2117 : Index := Scalar.indexCast v2100
  let c0_1444 : Index := 0#32
  ![1, 3, v2117.toNat, 0]
def k0_cond8 (i : grid0.Coords) : BitVec 1 :=
  let arg1 : BitVec 32 := BitVec.ofNat 32 (i 1).val
  let c0_i32_39 : BitVec 32 := 0#32
  let v103 : BitVec 1 := Scalar.cmpi .sgt arg1 c0_i32_39
  let v104 : BitVec 32 := Scalar.extui v103
  let c0_i32_40 : BitVec 32 := 0#32
  let v105 : BitVec 1 := Scalar.cmpi .ne v104 c0_i32_40
  v105

@[reducible] def k0_t14_loop : Scf.Loop 32 :=
  let c0_i32_619 : BitVec 32 := 0#32
  let c6_i32 : BitVec 32 := 6#32
  let v790 : BitVec 32 := Scalar.addi c0_i32_619 c6_i32
  let c1_i32_620 : BitVec 32 := 1#32
  ⟨c0_i32_619, v790, c1_i32_620⟩
def k0_mult19 (k0_t14 : Fin k0_t14_loop.trips) : BitVec 32 :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let c0_i32_1389 : BitVec 32 := 0#32
  let v2053 : BitVec 32 := Scalar.addi v2052 c0_i32_1389
  let c64_i32_1390 : BitVec 32 := 64#32
  let v2054 : BitVec 32 := Scalar.muli v2053 c64_i32_1390
  v2054
def k0_off62 (k0_t14 : Fin k0_t14_loop.trips) (c0_i32_1389 : BitVec 32) : Fin 3 → Nat :=
  let c0_1391 : Index := 0#32
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2053 : BitVec 32 := Scalar.addi v2052 c0_i32_1389
  let c64_i32_1390 : BitVec 32 := 64#32
  let v2054 : BitVec 32 := Scalar.muli v2053 c64_i32_1390
  let v2055 : BitVec 32 := v2054
  let v2056 : Index := Scalar.indexCast v2055
  let c0_1392 : Index := 0#32
  ![0, v2056.toNat, 0]
def k0_off63 (k0_t14 : Fin k0_t14_loop.trips) (c0_i32_1389 : BitVec 32) : Fin 2 → Nat :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2053 : BitVec 32 := Scalar.addi v2052 c0_i32_1389
  let c64_i32_1390 : BitVec 32 := 64#32
  let v2054 : BitVec 32 := Scalar.muli v2053 c64_i32_1390
  let v2055 : BitVec 32 := v2054
  let v2062 : Index := Scalar.indexCast v2055
  let c0_1394 : Index := 0#32
  ![v2062.toNat, 0]
def k0_off64 (k0_t14 : Fin k0_t14_loop.trips) (c0_i32_1389 : BitVec 32) : Fin 3 → Nat :=
  let c0_1408 : Index := 0#32
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2053 : BitVec 32 := Scalar.addi v2052 c0_i32_1389
  let c64_i32_1390 : BitVec 32 := 64#32
  let v2054 : BitVec 32 := Scalar.muli v2053 c64_i32_1390
  let v2055 : BitVec 32 := v2054
  let v2078 : Index := Scalar.indexCast v2055
  let c256_1409 : Index := 256#32
  ![0, v2078.toNat, 256]
def k0_off65 (k0_t14 : Fin k0_t14_loop.trips) (c0_i32_1389 : BitVec 32) : Fin 2 → Nat :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2053 : BitVec 32 := Scalar.addi v2052 c0_i32_1389
  let c64_i32_1390 : BitVec 32 := 64#32
  let v2054 : BitVec 32 := Scalar.muli v2053 c64_i32_1390
  let v2055 : BitVec 32 := v2054
  let v2084 : Index := Scalar.indexCast v2055
  let c256_1411 : Index := 256#32
  ![v2084.toNat, 256]
def k0_off66 (k0_t14 : Fin k0_t14_loop.trips) (c0_i32_1389 : BitVec 32) : Fin 3 → Nat :=
  let c0_1425 : Index := 0#32
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2053 : BitVec 32 := Scalar.addi v2052 c0_i32_1389
  let c64_i32_1390 : BitVec 32 := 64#32
  let v2054 : BitVec 32 := Scalar.muli v2053 c64_i32_1390
  let v2055 : BitVec 32 := v2054
  let v2100 : Index := Scalar.indexCast v2055
  let c512_1426 : Index := 512#32
  ![0, v2100.toNat, 512]
def k0_off67 (k0_t14 : Fin k0_t14_loop.trips) (c0_i32_1389 : BitVec 32) : Fin 2 → Nat :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2053 : BitVec 32 := Scalar.addi v2052 c0_i32_1389
  let c64_i32_1390 : BitVec 32 := 64#32
  let v2054 : BitVec 32 := Scalar.muli v2053 c64_i32_1390
  let v2055 : BitVec 32 := v2054
  let v2106 : Index := Scalar.indexCast v2055
  let c512_1428 : Index := 512#32
  ![v2106.toNat, 512]
def k0_off68 (k0_t14 : Fin k0_t14_loop.trips) (c0_i32_1389 : BitVec 32) : Fin 3 → Nat :=
  let c0_1442 : Index := 0#32
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2053 : BitVec 32 := Scalar.addi v2052 c0_i32_1389
  let c64_i32_1390 : BitVec 32 := 64#32
  let v2054 : BitVec 32 := Scalar.muli v2053 c64_i32_1390
  let v2055 : BitVec 32 := v2054
  let v2122 : Index := Scalar.indexCast v2055
  let c768_1443 : Index := 768#32
  ![0, v2122.toNat, 768]
def k0_off69 (k0_t14 : Fin k0_t14_loop.trips) (c0_i32_1389 : BitVec 32) : Fin 2 → Nat :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2053 : BitVec 32 := Scalar.addi v2052 c0_i32_1389
  let c64_i32_1390 : BitVec 32 := 64#32
  let v2054 : BitVec 32 := Scalar.muli v2053 c64_i32_1390
  let v2055 : BitVec 32 := v2054
  let v2128 : Index := Scalar.indexCast v2055
  let c768_1445 : Index := 768#32
  ![v2128.toNat, 768]
def k0_mult20 (k0_t14 : Fin k0_t14_loop.trips) : BitVec 32 :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let c0_i32_1595 : BitVec 32 := 0#32
  let v2312 : BitVec 32 := Scalar.addi v2052 c0_i32_1595
  let c2_i32_1596 : BitVec 32 := 2#32
  let v2313 : BitVec 32 := Scalar.subi v2312 c2_i32_1596
  let c64_i32_1597 : BitVec 32 := 64#32
  let v2314 : BitVec 32 := Scalar.muli v2313 c64_i32_1597
  v2314
def k0_off70 (k0_t14 : Fin k0_t14_loop.trips) (c0_i32_1595 : BitVec 32) : Fin 2 → Nat :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2312 : BitVec 32 := Scalar.addi v2052 c0_i32_1595
  let c2_i32_1596 : BitVec 32 := 2#32
  let v2313 : BitVec 32 := Scalar.subi v2312 c2_i32_1596
  let c64_i32_1597 : BitVec 32 := 64#32
  let v2314 : BitVec 32 := Scalar.muli v2313 c64_i32_1597
  let v2315 : BitVec 32 := v2314
  let v2316 : Index := Scalar.indexCast v2315
  let c0_1598 : Index := 0#32
  ![v2316.toNat, 0]
def k0_off71 (k0_t14 : Fin k0_t14_loop.trips) (c0_i32_1595 : BitVec 32) : Fin 2 → Nat :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2312 : BitVec 32 := Scalar.addi v2052 c0_i32_1595
  let c2_i32_1596 : BitVec 32 := 2#32
  let v2313 : BitVec 32 := Scalar.subi v2312 c2_i32_1596
  let c64_i32_1597 : BitVec 32 := 64#32
  let v2314 : BitVec 32 := Scalar.muli v2313 c64_i32_1597
  let v2315 : BitVec 32 := v2314
  let v2344 : Index := Scalar.indexCast v2315
  let c256_1619 : Index := 256#32
  ![v2344.toNat, 256]
def k0_off72 (k0_t14 : Fin k0_t14_loop.trips) (c0_i32_1595 : BitVec 32) : Fin 2 → Nat :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2312 : BitVec 32 := Scalar.addi v2052 c0_i32_1595
  let c2_i32_1596 : BitVec 32 := 2#32
  let v2313 : BitVec 32 := Scalar.subi v2312 c2_i32_1596
  let c64_i32_1597 : BitVec 32 := 64#32
  let v2314 : BitVec 32 := Scalar.muli v2313 c64_i32_1597
  let v2315 : BitVec 32 := v2314
  let v2372 : Index := Scalar.indexCast v2315
  let c512_1640 : Index := 512#32
  ![v2372.toNat, 512]
def k0_off73 (k0_t14 : Fin k0_t14_loop.trips) (c0_i32_1595 : BitVec 32) : Fin 2 → Nat :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2312 : BitVec 32 := Scalar.addi v2052 c0_i32_1595
  let c2_i32_1596 : BitVec 32 := 2#32
  let v2313 : BitVec 32 := Scalar.subi v2312 c2_i32_1596
  let c64_i32_1597 : BitVec 32 := 64#32
  let v2314 : BitVec 32 := Scalar.muli v2313 c64_i32_1597
  let v2315 : BitVec 32 := v2314
  let v2400 : Index := Scalar.indexCast v2315
  let c768_1661 : Index := 768#32
  ![v2400.toNat, 768]
def k0_mult21 (k0_t14 : Fin k0_t14_loop.trips) : BitVec 32 :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let c0_i32_1682 : BitVec 32 := 0#32
  let v2428 : BitVec 32 := Scalar.addi v2052 c0_i32_1682
  let c3_i32_1683 : BitVec 32 := 3#32
  let v2429 : BitVec 32 := Scalar.subi v2428 c3_i32_1683
  let c64_i32_1684 : BitVec 32 := 64#32
  let v2430 : BitVec 32 := Scalar.muli v2429 c64_i32_1684
  v2430
def k0_off74 (k0_t14 : Fin k0_t14_loop.trips) (c0_i32_1682 : BitVec 32) : Fin 3 → Nat :=
  let c0_1721 : Index := 0#32
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let v2428 : BitVec 32 := Scalar.addi v2052 c0_i32_1682
  let c3_i32_1683 : BitVec 32 := 3#32
  let v2429 : BitVec 32 := Scalar.subi v2428 c3_i32_1683
  let c64_i32_1684 : BitVec 32 := 64#32
  let v2430 : BitVec 32 := Scalar.muli v2429 c64_i32_1684
  let v2431 : BitVec 32 := v2430
  let v2559 : Index := Scalar.indexCast v2431
  let c0_1722 : Index := 0#32
  ![0, v2559.toNat, 0]
def k0_mult22 (k0_t14 : Fin k0_t14_loop.trips) : BitVec 32 :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let c1_i32_1723 : BitVec 32 := 1#32
  let v2563 : BitVec 32 := Scalar.addi v2052 c1_i32_1723
  let c64_i32_1724 : BitVec 32 := 64#32
  let v2564 : BitVec 32 := Scalar.muli v2563 c64_i32_1724
  v2564
def k0_mult23 (k0_t14 : Fin k0_t14_loop.trips) : BitVec 32 :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let c1_i32_1929 : BitVec 32 := 1#32
  let v2822 : BitVec 32 := Scalar.addi v2052 c1_i32_1929
  let c2_i32_1930 : BitVec 32 := 2#32
  let v2823 : BitVec 32 := Scalar.subi v2822 c2_i32_1930
  let c64_i32_1931 : BitVec 32 := 64#32
  let v2824 : BitVec 32 := Scalar.muli v2823 c64_i32_1931
  v2824
def k0_mult24 (k0_t14 : Fin k0_t14_loop.trips) : BitVec 32 :=
  let c3_i32_1388 : BitVec 32 := 3#32
  let c2_i32_1387 : BitVec 32 := 2#32
  let c0_i32_619 : BitVec 32 := 0#32
  let c1_i32_620 : BitVec 32 := 1#32
  let arg18 : BitVec 32 := Scf.iv c0_i32_619 c1_i32_620 k0_t14
  let v2051 : BitVec 32 := Scalar.muli c2_i32_1387 arg18
  let v2052 : BitVec 32 := Scalar.addi c3_i32_1388 v2051
  let c1_i32_2016 : BitVec 32 := 1#32
  let v2938 : BitVec 32 := Scalar.addi v2052 c1_i32_2016
  let c3_i32_2017 : BitVec 32 := 3#32
  let v2939 : BitVec 32 := Scalar.subi v2938 c3_i32_2017
  let c64_i32_2018 : BitVec 32 := 64#32
  let v2940 : BitVec 32 := Scalar.muli v2939 c64_i32_2018
  v2940
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x576x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.FfnBlock.lean ====
module

public import proofs.«01_k».proof.Proof.Gen.KernelIdeal.Value
public import Idealize.ShloMosaic.Lib.Pipeline.ValueKit

@[expose] public section

set_option maxRecDepth 16384

noncomputable section

namespace Cert.Ffn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The activation's second printed copy (the first hidden block's step) is the first one. -/
theorem pay12_eq (a : Vec Ideal S1x1024x2048 .bf16) (g u : Vec Ideal S2048x512 .bf16) : k0_pay12 a g u = k0_pay5 a g u := rfl

/-- The activation's third printed copy (the last hidden block's step) is the first one. -/
theorem pay19_eq (a : Vec Ideal S1x1024x2048 .bf16) (g u : Vec Ideal S2048x512 .bf16) : k0_pay19 a g u = k0_pay5 a g u := rfl

/-- The first tile's update in the first hidden block's step is that of the later steps. -/
theorem pay13_eq (a : Vec Ideal S1x1024x2048 .bf16) (g u : Vec Ideal S2048x512 .bf16) (b : Vec Ideal S1x1024x512 .f32)
    (s : Vec Ideal S1x1x512 .f32) (w : Vec Ideal S512x512 .bf16) : k0_pay13 a g u b s w = k0_pay6 a g u b s w := rfl

/-- The first tile's update in the last hidden block's step is that of the other steps. -/
theorem pay20_eq (a : Vec Ideal S1x1024x2048 .bf16) (g u : Vec Ideal S2048x512 .bf16) (b : Vec Ideal S1x1024x512 .f32)
    (s : Vec Ideal S1x1x512 .f32) (w : Vec Ideal S512x512 .bf16) : k0_pay20 a g u b s w = k0_pay6 a g u b s w := rfl

/-- What the body adds into a block: the gate row times the activation against the down-projection block. -/
def upd (base : FVec Ideal S1x1024x2048 .f32) (x0 : FVec Ideal S1x1024x2048 .bf16) (x2 : FVec Ideal S1x6x2048 .f32)
    (x4 x5 : FVec Ideal S2048x512 .bf16) (x6 : FVec Ideal S512x2048 .bf16) : FVec Ideal S1x1024x2048 .f32 := fun y =>
  base y + x2 (ix3 0 5 (y 2)) * ∑ l : Fin 512, k0_pay5 x0 x4 x5 (ix2 (y 1) l) * x6 (ix2 l (y 2))

/-- In the first hidden block's step the block ends as the residual rows updated. -/
theorem outs_A (c : Dev nD) (t : Fin cfg0.N) (h0 : ¬(1 ≤ t.val % 11 ∧ t.val % 11 ≤ 9)) (h1 : t.val % 11 = 0) (y : S1x1024x2048.Idx) :
    outsAt0 m c t.val t.isLt y = upd (iblk m c 1 t) (iblk m c 0 t) (iblk m c 2 t) (iblk m c 4 t) (iblk m c 5 t) (iblk m c 6 t) y := by
  rw [outsAt0_A m c t h0 h1]
  frame_out
  unfold upd
  simp only [pay12_eq, pay13_eq]
  clear h0 h1
  canon_tiles x h
  all_goals (open_payloads; pointwise; blk_point [])

/-- In a middle hidden block's step the block ends as what the step before left, updated. -/
theorem outs_B (c : Dev nD) (t : Fin cfg0.N) (h0 : (1 ≤ t.val % 11 ∧ t.val % 11 ≤ 9)) (y : S1x1024x2048.Idx) :
    outsAt0 m c t.val t.isLt y = upd (outsAt0 m c (t.val - 1) (Nat.lt_of_le_of_lt (Nat.sub_le _ _) t.isLt)) (iblk m c 0 t) (iblk m c 2 t) (iblk m c 4 t) (iblk m c 5 t) (iblk m c 6 t) y := by
  rw [outsAt0_B m c t h0]
  frame_out
  unfold upd
  generalize outsAt0 m c (t.val - 1) _ = z
  clear h0
  canon_tiles x h
  all_goals (open_payloads; pointwise; blk_point [])

/-- Reading a whole block back after stores that fill it reads what the stores left. -/
theorem readCov_whole (v : View sig .tc .vmem S1x1024x2048 .f32) (L : List (View.Piece (Elt Ideal) S1x1024x2048 .f32))
    (inb : ∀ a, (![0, 0, 0] : Fin S1x1024x2048.rank → ℕ) a + S1x1024x2048.size a ≤ S1x1024x2048.size a) :
    v.readCov L (Rect.unit ![0, 0, 0] S1x1024x2048.size inb).toLoadRect = View.canon L :=
  (View.readCov_eq_canon' v L _).trans
    (View.ld_unit_zero (off := ![0, 0, 0]) (by decide) inb (View.canon L))

set_option maxHeartbeats 1000000 in
/-- In the last hidden block's step the block ends as what the step before left, updated and then normalised row by row. -/
theorem outs_C (c : Dev nD) (t : Fin cfg0.N) (h0 : ¬(1 ≤ t.val % 11 ∧ t.val % 11 ≤ 9)) (h1 : ¬t.val % 11 = 0) (y : S1x1024x2048.Idx) :
    outsAt0 m c t.val t.isLt y = k0_pay4 (upd (outsAt0 m c (t.val - 1) (Nat.lt_of_le_of_lt (Nat.sub_le _ _) t.isLt)) (iblk m c 0 t) (iblk m c 2 t) (iblk m c 4 t) (iblk m c 5 t) (iblk m c 6 t)) (iblk m c 3 t) y := by
  rw [outsAt0_C m c t h0 h1]
  frame_out
  congr 1
  generalize outsAt0 m c (t.val - 1) _ = z
  simp only [pay19_eq, pay20_eq]
  clear h0 h1 y
  rw [readCov_whole]
  funext y
  unfold upd
  canon_tiles x h
  all_goals (open_payloads; pointwise; blk_point [])

end Cert.Ffn

end
-- ==== Proof.RealFacts.lean ====
module

public import Idealize.ShloMosaic.Lib.IdealHost
public import Idealize.ShloMosaic.Lib.ReduceAll
public import Idealize.ShloMosaic.Lib.Pipeline.ValueKit

@[expose] public section

noncomputable section

/-! Facts about extended reals that are real numbers, used where a law (distributivity, the sigmoid's identity) holds
    for real numbers only. -/

namespace Cert.RealFacts

open Idealize.ShloMosaic

/-- An extended real that is a real number. -/
def IsReal (x : EReal) : Prop := ∃ r : ℝ, x = (r : EReal)

/-- A real number is real among the extended reals. -/
theorem IsReal.coe (r : ℝ) : IsReal (r : EReal) := ⟨r, rfl⟩

/-- Sums of real numbers are real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Products of real numbers are real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The sum of real numbers, taken among the extended reals, is their real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Finite sums of real numbers are real. -/
theorem IsReal.sum {ι : Type} (s : Finset ι) {f : ι → EReal} (hf : ∀ i, IsReal (f i)) : IsReal (∑ i ∈ s, f i) := by
  choose g hg using hf
  exact ⟨∑ i ∈ s, g i, by rw [← coe_sum]; exact Finset.sum_congr rfl fun i _ => hg i⟩

/-- A real factor comes out of a sum of real numbers. -/
theorem mul_sum {ι : Type} (s : Finset ι) {a : EReal} {f : ι → EReal} (ha : IsReal a) (hf : ∀ i, IsReal (f i)) :
    a * ∑ i ∈ s, f i = ∑ i ∈ s, a * f i := by
  choose g hg using hf
  obtain ⟨r, rfl⟩ := ha
  simp only [hg]
  rw [coe_sum, ← EReal.coe_mul, Finset.mul_sum, ← coe_sum]
  simp only [EReal.coe_mul]

/-- The printed one half is one half. -/
theorem half : Ideal.ofBits .f32 1056964608#32 = (((1 : ℝ) / 2 : ℝ) : EReal) := by
  simp [Ideal.ofBits, Ideal.ieee, -EReal.coe_mul]; norm_num

/-- The printed infinity is the largest extended real. -/
theorem inf : Ideal.ofBits .f32 2139095040#32 = (⊤ : EReal) := by
  simp [Ideal.ofBits, Ideal.ieee]

/-- The sigmoid of a real number through the hyperbolic tangent of its half. -/
theorem sigmoid_tanh (g : ℝ) : (1 / 2 * g) + (1 / 2 * g) * Real.tanh (1 / 2 * g) = g * (1 + Real.exp (-g))⁻¹ := by
  rw [Real.tanh_eq_sinh_div_cosh, Real.sinh_eq, Real.cosh_eq]
  have h1 : Real.exp (-g) = Real.exp (-(1 / 2 * g)) * Real.exp (-(1 / 2 * g)) := by rw [← Real.exp_add]; congr 1; ring
  have h2 : Real.exp (1 / 2 * g) * Real.exp (-(1 / 2 * g)) = 1 := by rw [← Real.exp_add]; simp
  have p1 := Real.exp_pos (1 / 2 * g)
  have p2 := Real.exp_pos (-(1 / 2 * g))
  rw [h1]
  generalize Real.exp (1 / 2 * g) = a at *
  generalize Real.exp (-(1 / 2 * g)) = b at *
  have hb : b = a⁻¹ := by field_simp; linarith
  subst hb
  field_simp
  ring

/-- The gate `x · sigmoid x` as the kernel writes it, through the hyperbolic tangent, and as the reference writes it. -/
theorem silu_eq {x : EReal} (hx : IsReal x) :
    Ideal.ofBits .f32 1056964608#32 * x + Ideal.ofBits .f32 1056964608#32 * x * Ideal.tanh (Ideal.ofBits .f32 1056964608#32 * x)
      = x * Ideal.div 1 (1 + Ideal.exp (-x)) := by
  obtain ⟨g, rfl⟩ := hx
  rw [half, ← EReal.coe_mul]
  show _ + _ * ((Real.tanh (1 / 2 * g) : ℝ) : EReal) = _
  rw [← EReal.coe_mul, ← EReal.coe_add, sigmoid_tanh, ← EReal.coe_neg]
  show _ = _ * Ideal.div 1 (1 + ((Real.exp (-g) : ℝ) : EReal))
  have hp : (0 : ℝ) < 1 + Real.exp (-g) := by positivity
  have hne : (1 : EReal) + ((Real.exp (-g) : ℝ) : EReal) = ((1 + Real.exp (-g) : ℝ) : EReal) := by
    rw [EReal.coe_add, EReal.coe_one]
  rw [hne, Ideal.div, if_neg (by exact_mod_cast hp.ne'), one_mul, ← EReal.coe_inv, ← EReal.coe_mul]

/-- A real gate's value is real. -/
theorem IsReal.silu {x : EReal} (hx : IsReal x) : IsReal (x * Ideal.div 1 (1 + Ideal.exp (-x))) := by
  rw [← silu_eq hx, half]
  obtain ⟨g, rfl⟩ := hx
  rw [← EReal.coe_mul]
  exact (IsReal.coe _).add ((IsReal.coe _).mul ⟨Real.tanh (1 / 2 * g), rfl⟩)

/-- An extended real whose magnitude is below the printed infinity is a real number. -/
theorem IsReal.of_abs_lt {x : EReal} (h : Ideal.cmp .olt (max x (-x)) (Ideal.ofBits .f32 2139095040#32) = 1#1) : IsReal x := by
  rw [inf] at h
  have h' : max x (-x) < ⊤ := by
    by_contra hn
    simp [Ideal.cmp, hn] at h
  induction x using EReal.rec with
  | bot => simp at h'
  | top => simp at h'
  | coe r => exact ⟨r, rfl⟩

end Cert.RealFacts

end
-- ==== Proof.FfnRef.lean ====
module

public import proofs.«01_k».proof.Proof.Gen.ReferenceIdeal.Run
public import proofs.«01_k».proof.Proof.RealFacts
public import Idealize.ShloMosaic.Lib.Pipeline.ValueKit

@[expose] public section

set_option maxRecDepth 16384

noncomputable section

/-! The feed-forward reference, cut into its stages, and each stage read at an index. -/

namespace Cert.Ffn

open Idealize.ShloMosaic Idealize.ShloMosaic.TcCoe

/-- A hidden projection: the tokens against a weight matrix of the hidden width. -/
def proj (X0 : FVec Ideal Cert.ReferenceIdeal.S4x8192x2048 .bf16) (W : FVec Ideal Cert.ReferenceIdeal.S2048x5632 .bf16) : FVec Ideal Cert.ReferenceIdeal.S4x8192x5632 .f32 :=
  Host.dotGeneral Cert.ReferenceIdeal.dot_S4x8192x2048_S2048x5632_S4x8192x5632_2_0_01_1_n_n none (extf .f32 X0 Cert.ReferenceIdeal.Gen.bitsLt_bf16_f32) (extf .f32 W Cert.ReferenceIdeal.Gen.bitsLt_bf16_f32)

/-- The hidden activation: the gate projection times its sigmoid, times the up projection. -/
def hid (X0 : FVec Ideal Cert.ReferenceIdeal.S4x8192x2048 .bf16) (Wg Wu : FVec Ideal Cert.ReferenceIdeal.S2048x5632 .bf16) : FVec Ideal Cert.ReferenceIdeal.S4x8192x5632 .f32 :=
  mulf (mulf (proj X0 Wg) (Host.divf (broadcastInDim Cert.ReferenceIdeal.S4x8192x5632 ![] Cert.ReferenceIdeal.Gen.bcast_S_S4x8192x5632 (constant Cert.ReferenceIdeal.S_ .f32 0x3F800000#32)) (addf (broadcastInDim Cert.ReferenceIdeal.S4x8192x5632 ![] Cert.ReferenceIdeal.Gen.bcast_S_S4x8192x5632 (constant Cert.ReferenceIdeal.S_ .f32 0x3F800000#32)) (Host.exp (Host.negf (proj X0 Wg)))))) (proj X0 Wu)

/-- The residual stream after the gated feed-forward part, before the final norm. -/
def pre (X0 : FVec Ideal Cert.ReferenceIdeal.S4x8192x2048 .bf16) (X1 : FVec Ideal Cert.ReferenceIdeal.S4x8192x2048 .f32) (M : FVec Ideal Cert.ReferenceIdeal.S4x6x2048 .f32)
    (Wg Wu : FVec Ideal Cert.ReferenceIdeal.S2048x5632 .bf16) (Wd : FVec Ideal Cert.ReferenceIdeal.S5632x2048 .bf16) : FVec Ideal Cert.ReferenceIdeal.S4x8192x2048 .f32 :=
  addf X1 (mulf (broadcastInDim Cert.ReferenceIdeal.S4x8192x2048 ![0, 1, 2] Cert.ReferenceIdeal.Gen.bcast_S4x1x2048_S4x8192x2048_0_1_2 (broadcastInDim Cert.ReferenceIdeal.S4x1x2048 ![0, 2] Cert.ReferenceIdeal.Gen.bcast_S4x2048_S4x1x2048_0_2 (shapeCast _ (extractStridedSlice Cert.ReferenceIdeal.S4x1x2048 ![0, 5, 0] M Cert.ReferenceIdeal.Gen.slices_S4x6x2048_S4x1x2048_0_5_0) Cert.ReferenceIdeal.Gen.shapeCasts_S4x1x2048_S4x2048))) (Host.dotGeneral Cert.ReferenceIdeal.dot_S4x8192x5632_S5632x2048_S4x8192x2048_2_0_01_1_n_n none (hid X0 Wg Wu) (extf .f32 Wd Cert.ReferenceIdeal.Gen.bitsLt_bf16_f32)))

/-- The final root-mean-square norm with its gain. -/
def norm (P : FVec Ideal Cert.ReferenceIdeal.S4x8192x2048 .f32) (G : FVec Ideal Cert.ReferenceIdeal.S2048 .f32) : FVec Ideal Cert.ReferenceIdeal.S4x8192x2048 .f32 :=
  mulf (mulf P (broadcastInDim Cert.ReferenceIdeal.S4x8192x2048 ![0, 1, 2] Cert.ReferenceIdeal.Gen.bcast_S4x8192x1_S4x8192x2048_0_1_2 (Host.rsqrt (addf (Host.divf (broadcastInDim Cert.ReferenceIdeal.S4x8192x1 ![0, 1] Cert.ReferenceIdeal.Gen.bcast_S4x8192_S4x8192x1_0_1 (Host.reduceAdd (mulf P P) (constant Cert.ReferenceIdeal.S_ .f32 0x00000000#32) Cert.ReferenceIdeal.Gen.reducesTo_S4x8192x2048_S4x8192_d2 Cert.ReferenceIdeal.Gen.h_S_)) (broadcastInDim Cert.ReferenceIdeal.S4x8192x1 ![] Cert.ReferenceIdeal.Gen.bcast_S_S4x8192x1 (constant Cert.ReferenceIdeal.S_ .f32 0x45000000#32))) (broadcastInDim Cert.ReferenceIdeal.S4x8192x1 ![] Cert.ReferenceIdeal.Gen.bcast_S_S4x8192x1 (constant Cert.ReferenceIdeal.S_ .f32 0x358637BD#32)))))) (broadcastInDim Cert.ReferenceIdeal.S4x8192x2048 ![0, 1, 2] Cert.ReferenceIdeal.Gen.bcast_S1x1x2048_S4x8192x2048_0_1_2 (broadcastInDim Cert.ReferenceIdeal.S1x1x2048 ![2] Cert.ReferenceIdeal.Gen.bcast_S2048_S1x1x2048_2 G))

/-- An entry of a projection into the hidden units is a sum over the 2048 channels. -/
theorem proj_at (X0 : FVec Ideal Cert.ReferenceIdeal.S4x8192x2048 .bf16) (W : FVec Ideal Cert.ReferenceIdeal.S2048x5632 .bf16) (b : Fin 4) (r : Fin 8192) (j : Fin 5632) :
    proj X0 W (ix3 b r j) = ∑ k : Fin 2048, X0 (ix3 b r k) * W (ix2 k j) := by
  pointwise [proj]

/-- A hidden unit is the sigmoid-weighted gate projection times the up projection. -/
theorem hid_at (X0 : FVec Ideal Cert.ReferenceIdeal.S4x8192x2048 .bf16) (Wg Wu : FVec Ideal Cert.ReferenceIdeal.S2048x5632 .bf16) (b : Fin 4) (r : Fin 8192) (j : Fin 5632) :
    hid X0 Wg Wu (ix3 b r j) = proj X0 Wg (ix3 b r j) * Ideal.div 1 (1 + Ideal.exp (-(proj X0 Wg (ix3 b r j)))) * proj X0 Wu (ix3 b r j) := by
  pointwise [hid]

/-- An entry before the final norm is the residual plus the gate row times the down projection, summed over the 5632 hidden units. -/
theorem pre_at (X0 : FVec Ideal Cert.ReferenceIdeal.S4x8192x2048 .bf16) (X1 : FVec Ideal Cert.ReferenceIdeal.S4x8192x2048 .f32) (M : FVec Ideal Cert.ReferenceIdeal.S4x6x2048 .f32)
    (Wg Wu : FVec Ideal Cert.ReferenceIdeal.S2048x5632 .bf16) (Wd : FVec Ideal Cert.ReferenceIdeal.S5632x2048 .bf16) (b : Fin 4) (r : Fin 8192) (c : Fin 2048) :
    pre X0 X1 M Wg Wu Wd (ix3 b r c) = X1 (ix3 b r c) + M (ix3 b 5 c) * ∑ j : Fin 5632, hid X0 Wg Wu (ix3 b r j) * Wd (ix2 j c) := by
  pointwise [pre]

/-- An entry of the final norm: the row's entry over the root of its mean square, times the gain. -/
theorem norm_at (P : FVec Ideal Cert.ReferenceIdeal.S4x8192x2048 .f32) (G : FVec Ideal Cert.ReferenceIdeal.S2048 .f32) (b : Fin 4) (r : Fin 8192) (c : Fin 2048) :
    norm P G (ix3 b r c) = P (ix3 b r c) * Ideal.rsqrt (Ideal.div (∑ k : Fin 2048, P (ix3 b r k) * P (ix3 b r k)) (Ideal.ofBits .f32 0x45000000#32)
      + Ideal.ofBits .f32 0x358637BD#32) * G (ix1 c) := by
  pointwise [norm]

open Cert.ReferenceIdeal in
/-- The reference's result is its stages composed. -/
theorem res_eq (m : (ℓ : Loc nD τ sig) → Buf (Elt Ideal) ℓ) (c : Dev nD) : Cert.ReferenceIdeal.Value.res_main_v27 m c
    = norm (pre (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)))
      (m ((c.tc : Thread nD τ).loc main_arg3)) := rfl

end Cert.Ffn

end
-- ==== Proof.FfnValue.lean ====
module

public import proofs.«01_k».proof.Proof.FfnBlock
public import proofs.«01_k».proof.Proof.FfnRef

@[expose] public section

set_option maxRecDepth 16384

noncomputable section

/-! The feed-forward kernel's result array is the reference's result. -/

namespace Cert.Ffn

open Cert.KernelIdeal Cert.KernelIdeal.Gen Idealize.ShloMosaic Idealize.ShloMosaic.TcCoe Idealize.SL.Sem
open Idealize.ShloMosaic.Pipeline (Dat)
open Cert.RealFacts

variable (m : (ℓ : Loc nD τ sig) → Buf (Elt Ideal) ℓ)

/-- The normalised tokens that the feed-forward part reads. -/
abbrev aX0 (c : Dev nD) : FVec Ideal Cert.ReferenceIdeal.S4x8192x2048 .bf16 := m ((c : Thread nD τ).loc main_arg0)
/-- The residual stream. -/
abbrev aX1 (c : Dev nD) : FVec Ideal Cert.ReferenceIdeal.S4x8192x2048 .f32 := m ((c : Thread nD τ).loc main_arg1)
/-- The six modulation rows of each sequence. -/
abbrev aM (c : Dev nD) : FVec Ideal Cert.ReferenceIdeal.S4x6x2048 .f32 := m ((c : Thread nD τ).loc main_arg2)
/-- The final norm's gain. -/
abbrev aG (c : Dev nD) : FVec Ideal Cert.ReferenceIdeal.S2048 .f32 := m ((c : Thread nD τ).loc main_arg3)
/-- The gate weights. -/
abbrev aWg (c : Dev nD) : FVec Ideal Cert.ReferenceIdeal.S2048x5632 .bf16 := m ((c : Thread nD τ).loc main_arg4)
/-- The up weights. -/
abbrev aWu (c : Dev nD) : FVec Ideal Cert.ReferenceIdeal.S2048x5632 .bf16 := m ((c : Thread nD τ).loc main_arg5)
/-- The down weights. -/
abbrev aWd (c : Dev nD) : FVec Ideal Cert.ReferenceIdeal.S5632x2048 .bf16 := m ((c : Thread nD τ).loc main_arg6)

/-- The arguments that the two orders of summation need real: the tokens, the modulation and the three weights. -/
structure Real (c : Dev nD) : Prop where
  x0 : ∀ i, IsReal (aX0 m c i)
  mods : ∀ i, IsReal (aM m c i)
  wg : ∀ i, IsReal (aWg m c i)
  wu : ∀ i, IsReal (aWu m c i)
  wd : ∀ i, IsReal (aWd m c i)

/-- The windows' block indices at grid point `t`: batch `t / 88`, row block `t / 11 % 8`, hidden block `t % 11`. -/
theorem idx : ∀ t : Fin cfg0.N, win0_0.index t = ![t.val / 88, t.val / 11 % 8, 0] ∧ win0_1.index t = ![t.val / 88, t.val / 11 % 8, 0]
    ∧ win0_2.index t = ![t.val / 88, 0, 0] ∧ win0_3.index t = ![0, 0] ∧ win0_4.index t = ![0, t.val % 11]
    ∧ win0_5.index t = ![0, t.val % 11] ∧ win0_6.index t = ![t.val % 11, 0] ∧ win0_7.index t = ![t.val / 88, t.val / 11 % 8, 0] :=
  (by decide +kernel : ∀ t : Fin grid0.N, _)

/-- Projections of real tokens by real weights are real. -/
theorem proj_real {X0 : FVec Ideal Cert.ReferenceIdeal.S4x8192x2048 .bf16} {W : FVec Ideal Cert.ReferenceIdeal.S2048x5632 .bf16}
    (h0 : ∀ i, IsReal (X0 i)) (hW : ∀ i, IsReal (W i)) (b : Fin 4) (r : Fin 8192) (j : Fin 5632) : IsReal (proj X0 W (ix3 b r j)) := by
  rw [proj_at]
  exact IsReal.sum _ fun k => (h0 _).mul (hW _)

/-- One entry of the kernel's activation block is the reference's hidden activation at that hidden unit. -/
theorem act_at (c : Dev nD) (h : Real m c) (t : Fin cfg0.N) (i : Fin 1024) (l : Fin 512) (b : Fin 4) (r : Fin 8192) (j : Fin 5632)
    (hb : b.val = t.val / 88) (hr : r.val = t.val / 11 % 8 * 1024 + i.val) (hj : j.val = t.val % 11 * 512 + l.val) :
    k0_pay5 (iblk m c 0 t) (iblk m c 4 t) (iblk m c 5 t) (ix2 i l) = hid (aX0 m c) (aWg m c) (aWu m c) (ix3 b r j) := by
  rw [hid_at, ← silu_eq (proj_real h.x0 h.wg b r j), proj_at, proj_at]
  pointwise [k0_pay5]
  blk_point [iblk, V, idx t]

/-- The part of the down projection that hidden block `s` contributes. -/
def part (c : Dev nD) (b : Fin 4) (r : Fin 8192) (col : Fin 2048) (s : Fin 11) : EReal :=
  aM m c (ix3 b 5 col) * ∑ l : Fin 512, hid (aX0 m c) (aWg m c) (aWu m c) (ix3 b r ⟨s.val * 512 + l.val, by omega⟩)
    * aWd m c (ix2 ⟨s.val * 512 + l.val, by omega⟩ col)

/-- What point `t` adds to its block is the contribution of its hidden block. -/
theorem upd_at (c : Dev nD) (h : Real m c) (t : Fin cfg0.N) (z : FVec Ideal S1x1024x2048 .f32) (y : S1x1024x2048.Idx)
    (b : Fin 4) (r : Fin 8192) (col : Fin 2048) (s : Fin 11)
    (hb : b.val = t.val / 88) (hr : r.val = t.val / 11 % 8 * 1024 + (y 1).val) (hc : col.val = (y 2).val) (hs : s.val = t.val % 11) :
    upd z (iblk m c 0 t) (iblk m c 2 t) (iblk m c 4 t) (iblk m c 5 t) (iblk m c 6 t) y = z y + part m c b r col s := by
  unfold upd part
  congr 1
  congr 1
  · blk_point [iblk, V, idx t]
  · refine Finset.sum_congr rfl fun l _ => ?_
    rw [act_at m c h t (y 1) l b r ⟨s.val * 512 + l.val, by omega⟩ hb hr (by show s.val * 512 + _ = _; rw [hs])]
    congr 1
    blk_point [iblk, V, idx t]

/-- The contributions by hidden block number, zero past the last. -/
def partN (c : Dev nD) (b : Fin 4) (r : Fin 8192) (col : Fin 2048) (s : ℕ) : EReal := if h : s < 11 then part m c b r col ⟨s, h⟩ else 0

/-- After point `t`, not the last of its row block, the output block holds the residual stream plus the contributions so far. -/
theorem acc_at (c : Dev nD) (h : Real m c) (b : Fin 4) (r : Fin 8192) (col : Fin 2048) (s : ℕ) : ∀ (t : Fin cfg0.N) (y : S1x1024x2048.Idx),
    s ≤ 9 → t.val % 11 = s → b.val = t.val / 88 → r.val = t.val / 11 % 8 * 1024 + (y 1).val → col.val = (y 2).val →
    outsAt0 m c t.val t.isLt y = aX1 m c (ix3 b r col) + ∑ k ∈ Finset.range (s + 1), partN m c b r col k := by
  induction s with
  | zero =>
    intro t y _ ht hb hr hc
    rw [outs_A m c t (by omega) ht y, upd_at m c h t _ y b r col ⟨0, by omega⟩ hb hr hc (by simp [ht])]
    rw [Finset.sum_range_one, partN, dif_pos (by omega)]
    congr 1
    blk_point [iblk, V, idx t]
  | succ s ih =>
    intro t y hs ht hb hr hc
    have h1 : t.val - 1 < cfg0.N := Nat.lt_of_le_of_lt (Nat.sub_le _ _) t.isLt
    rw [outs_B m c t (by omega) y, upd_at m c h t _ y b r col ⟨s + 1, by omega⟩ hb hr hc (by simp [ht])]
    rw [ih ⟨t.val - 1, h1⟩ y (by omega) (by show (t.val - 1) % 11 = s; omega) (by show b.val = (t.val - 1) / 88; omega)
      (by show r.val = (t.val - 1) / 11 % 8 * 1024 + (y 1).val; omega) hc]
    rw [Finset.sum_range_succ _ (s + 1), ← add_assoc]
    congr 1
    rw [partN, dif_pos (by omega)]

/-- At the last point of a row block, before the norm, the block holds the reference's residual stream. -/
theorem upd_last (c : Dev nD) (h : Real m c) (t : Fin cfg0.N) (ht : t.val % 11 = 10) (y : S1x1024x2048.Idx) (b : Fin 4) (r : Fin 8192) (col : Fin 2048)
    (hb : b.val = t.val / 88) (hr : r.val = t.val / 11 % 8 * 1024 + (y 1).val) (hc : col.val = (y 2).val) :
    upd (outsAt0 m c (t.val - 1) (Nat.lt_of_le_of_lt (Nat.sub_le _ _) t.isLt)) (iblk m c 0 t) (iblk m c 2 t) (iblk m c 4 t) (iblk m c 5 t) (iblk m c 6 t) y
      = pre (aX0 m c) (aX1 m c) (aM m c) (aWg m c) (aWu m c) (aWd m c) (ix3 b r col) := by
  have h1 : t.val - 1 < cfg0.N := Nat.lt_of_le_of_lt (Nat.sub_le _ _) t.isLt
  rw [upd_at m c h t _ y b r col ⟨10, by omega⟩ hb hr hc (by simp [ht]), pre_at]
  rw [acc_at m c h b r col 9 ⟨t.val - 1, h1⟩ y (by omega) (by show (t.val - 1) % 11 = 9; omega) (by show b.val = (t.val - 1) / 88; omega)
      (by show r.val = (t.val - 1) / 11 % 8 * 1024 + (y 1).val; omega) hc]
  rw [add_assoc]
  congr 1
  have e : part m c b r col ⟨10, by omega⟩ = partN m c b r col 10 := by rw [partN, dif_pos (by omega)]
  rw [e, ← Finset.sum_range_succ, Finset.sum_range]
  have hreal : ∀ j : Fin 5632, IsReal (hid (aX0 m c) (aWg m c) (aWu m c) (ix3 b r j) * aWd m c (ix2 j col)) := fun j => by
    rw [hid_at]
    exact ((IsReal.silu (proj_real h.x0 h.wg b r j)).mul (proj_real h.x0 h.wu b r j)).mul (h.wd _)
  rw [← Fin.sum_mul_add_fin 11 512 (fun j : Fin 5632 => hid (aX0 m c) (aWg m c) (aWu m c) (ix3 b r j) * aWd m c (ix2 j col)),
    mul_sum _ (h.mods _) (fun s => IsReal.sum _ fun l => hreal _)]
  refine Finset.sum_congr rfl fun s _ => ?_
  rw [partN, dif_pos s.isLt]
  rfl

/-- The final norm of a block is the reference's norm of the array it is a block of. -/
theorem norm_point (U : Vec Ideal S1x1024x2048 .f32) (g : Vec Ideal S1x2048 .f32) (P : FVec Ideal Cert.ReferenceIdeal.S4x8192x2048 .f32)
    (G : FVec Ideal Cert.ReferenceIdeal.S2048 .f32) (i : Fin 1024) (b : Fin 4) (r : Fin 8192) (col : Fin 2048)
    (hU : ∀ k : Fin 2048, U (ix3 0 i k) = P (ix3 b r k)) (hg : g (ix2 0 col) = G (ix1 col)) :
    k0_pay4 U g (ix3 0 i col) = norm P G (ix3 b r col) := by
  rw [norm_at, ← hU col, ← hg]
  simp only [← hU]
  pointwise [k0_pay4]

/-- The gain's block is the argument: the host only reshapes it. -/
theorem gain_at (c : Dev nD) (t : Fin cfg0.N) (col : Fin 2048) : (iblk m c 3 t : Vec Ideal S1x2048 .f32) (ix2 0 col) = aG m c (ix1 col) := by
  blk_point [iblk, V, idx t]

/-- The block written back after the last point of a row block is the reference's block. -/
theorem block_at (c : Dev nD) (h : Real m c) (t : Fin cfg0.N) (ht : t.val % 11 = 10) (i : Fin 1024) (col : Fin 2048) (b : Fin 4) (r : Fin 8192)
    (hb : b.val = t.val / 88) (hr : r.val = t.val / 11 % 8 * 1024 + i.val) :
    outsAt0 m c t.val t.isLt (ix3 0 i col) = norm (pre (aX0 m c) (aX1 m c) (aM m c) (aWg m c) (aWu m c) (aWd m c)) (aG m c) (ix3 b r col) :=
  (outs_C m c t (by omega) (by omega) _).trans
    (norm_point _ _ _ _ i b r col (fun k => upd_last m c h t ht (ix3 0 i k) b r k hb hr rfl) (gain_at m c t col))

/-- The array the launch leaves is the reference's stages composed. -/
theorem final (c : Dev nD) (h : Real m c) : (dats m 0 c).arrAt 7 cfg0.N
    = norm (pre (aX0 m c) (aX1 m c) (aM m c) (aWg m c) (aWu m c) (aWd m c)) (aG m c) := by
  refine (dats m 0 c).arrAt_eq_of_covers 7 _ (by decide +kernel) fun t hf y => ?_
  have ht := (flush0_7 t).mp hf
  blk_simp
  rw [after0_7]
  have hN : t.val < 352 := t.isLt
  have hy : (y 1).val < 1024 := (y 1).isLt
  refine Eq.trans ?_ ((block_at m c h t ht (y 1) (y 2) ⟨t.val / 88, by omega⟩ ⟨t.val / 11 % 8 * 1024 + (y 1).val, by omega⟩ rfl rfl).trans ?_)
  · congr 1
    blk_ext
  · congr 1
    blk_ext [idx t]

end Cert.Ffn

end
-- ==== Proof.FfnClaim.lean ====
module

public import proofs.«01_k».proof.Defs
public import proofs.«01_k».proof.Proof.FfnValue
public import proofs.«01_k».proof.Proof.Gen.Pre_finite
public import proofs.«01_k».proof.Proof.Gen.KernelIdeal.Value

@[expose] public section

set_option maxRecDepth 16384

noncomputable section

/-! The claim about the feed-forward kernel and its reference. -/

namespace Cert.Ffn

open Cert.KernelIdeal Idealize.ShloMosaic Idealize.ShloMosaic.TcCoe Idealize.SL.Sem
open Cert.RealFacts

/-- The precondition says that the five arrays hold real numbers. -/
theorem real_of_pre (m : (ℓ : Loc nD τ sig) → Buf (Elt Ideal) ℓ) (h : Cert.Pre_KernelIdeal_finite m) (c : Dev nD) : Real m c := by
  have e := congrFun (h c) (default : Cert.Pre_finite.S_.Idx)
  unfold Cert.Pre_finite.fn Cert.Pre_finite.fn_part1 at e
  simp only [andi, IntOp.andi_eq_one] at e
  obtain ⟨⟨⟨⟨e0, e2⟩, e4⟩, e5⟩, e6⟩ := e
  have hs : Subsingleton Cert.Pre_finite.S_.Idx := ⟨fun a b => funext fun k => k.elim0⟩
  refine ⟨fun i => ?_, fun i => ?_, fun i => ?_, fun i => ?_, fun i => ?_⟩
  · exact IsReal.of_abs_lt (Host.reduce_andi_all _ _ _ _ _ e0 i)
  · exact IsReal.of_abs_lt (Host.reduce_andi_all _ _ _ _ _ e2 i)
  · exact IsReal.of_abs_lt (Host.reduce_andi_all _ _ _ _ _ e4 i)
  · exact IsReal.of_abs_lt (Host.reduce_andi_all _ _ _ _ _ e5 i)
  · exact IsReal.of_abs_lt (Host.reduce_andi_all _ _ _ _ _ e6 i)

/-- From finite tokens, modulation and weights, the kernel's result array and the reference's agree. -/
theorem algebraic : Cert.algebraic_KernelIdeal_ReferenceIdeal_pre_finite := by
  pair_intro
  · run_from Cert.KernelIdeal.Value.run_blocks m g
  · run_from Cert.ReferenceIdeal.Value.run m' g'
    rw [final m c (real_of_pre m hpre c)]
    refine (res_eq m' c).trans ?_
    obtain ⟨h0, h1, h2, h3, h4, h5, h6⟩ := hagree c
    rw [h0, h1, h2, h3, h4, h5, h6]

end Cert.Ffn

end
-- ==== Proof.OutRef.lean ====
module

public import proofs.«01_k».proof.Proof.Gen.Reference2Ideal.Run
public import Idealize.ShloMosaic.Lib.Pipeline.ValueKit

@[expose] public section

set_option maxRecDepth 16384

noncomputable section

/-! The output projection's reference, cut into its stages, and each stage read at an index. -/

namespace Cert.Outp

open Idealize.ShloMosaic Idealize.ShloMosaic.TcCoe

/-- The residual stream after the mixers: the two mixers' outputs side by side, projected, gated and added. -/
def res (A Ss : FVec Ideal Cert.Reference2Ideal.S4x8192x1024 .bf16) (X : FVec Ideal Cert.Reference2Ideal.S4x8192x2048 .f32) (M : FVec Ideal Cert.Reference2Ideal.S4x6x2048 .f32)
    (W : FVec Ideal Cert.Reference2Ideal.S2048x2048 .bf16) : FVec Ideal Cert.Reference2Ideal.S4x8192x2048 .f32 :=
  addf X (mulf (broadcastInDim Cert.Reference2Ideal.S4x8192x2048 ![0, 1, 2] Cert.Reference2Ideal.Gen.bcast_S4x1x2048_S4x8192x2048_0_1_2 (broadcastInDim Cert.Reference2Ideal.S4x1x2048 ![0, 2] Cert.Reference2Ideal.Gen.bcast_S4x2048_S4x1x2048_0_2 (shapeCast _ (extractStridedSlice Cert.Reference2Ideal.S4x1x2048 ![0, 2, 0] M Cert.Reference2Ideal.Gen.slices_S4x6x2048_S4x1x2048_0_2_0) Cert.Reference2Ideal.Gen.shapeCasts_S4x1x2048_S4x2048))) (Host.dotGeneral Cert.Reference2Ideal.dot_S4x8192x2048_S2048x2048_S4x8192x2048_2_0_01_1_n_n none (concatenate Cert.Reference2Ideal.S4x8192x2048 2 [⟨Cert.Reference2Ideal.S4x8192x1024, (extf .f32 A Cert.Reference2Ideal.Gen.bitsLt_bf16_f32)⟩, ⟨Cert.Reference2Ideal.S4x8192x1024, (extf .f32 Ss Cert.Reference2Ideal.Gen.bitsLt_bf16_f32)⟩] Cert.Reference2Ideal.Gen.concatenates_S4x8192x1024_S4x8192x1024_S4x8192x2048_d2) (extf .f32 W Cert.Reference2Ideal.Gen.bitsLt_bf16_f32)))

/-- The normalised and modulated stream that the feed-forward part reads. -/
def mod (P : FVec Ideal Cert.Reference2Ideal.S4x8192x2048 .f32) (M : FVec Ideal Cert.Reference2Ideal.S4x6x2048 .f32) (G : FVec Ideal Cert.Reference2Ideal.S2048 .f32) : FVec Ideal Cert.Reference2Ideal.S4x8192x2048 .bf16 :=
  truncf .bf16 (addf (mulf (mulf (mulf (P) (broadcastInDim Cert.Reference2Ideal.S4x8192x2048 ![0, 1, 2] Cert.Reference2Ideal.Gen.bcast_S4x8192x1_S4x8192x2048_0_1_2 (Host.rsqrt (addf (Host.divf (broadcastInDim Cert.Reference2Ideal.S4x8192x1 ![0, 1] Cert.Reference2Ideal.Gen.bcast_S4x8192_S4x8192x1_0_1 (Host.reduceAdd (mulf (P) (P)) (constant Cert.Reference2Ideal.S_ .f32 0x00000000#32) Cert.Reference2Ideal.Gen.reducesTo_S4x8192x2048_S4x8192_d2 Cert.Reference2Ideal.Gen.h_S_)) (broadcastInDim Cert.Reference2Ideal.S4x8192x1 ![] Cert.Reference2Ideal.Gen.bcast_S_S4x8192x1 (constant Cert.Reference2Ideal.S_ .f32 0x45000000#32))) (broadcastInDim Cert.Reference2Ideal.S4x8192x1 ![] Cert.Reference2Ideal.Gen.bcast_S_S4x8192x1 (constant Cert.Reference2Ideal.S_ .f32 0x358637BD#32)))))) (broadcastInDim Cert.Reference2Ideal.S4x8192x2048 ![0, 1, 2] Cert.Reference2Ideal.Gen.bcast_S1x1x2048_S4x8192x2048_0_1_2 (broadcastInDim Cert.Reference2Ideal.S1x1x2048 ![2] Cert.Reference2Ideal.Gen.bcast_S2048_S1x1x2048_2 G))) (broadcastInDim Cert.Reference2Ideal.S4x8192x2048 ![0, 1, 2] Cert.Reference2Ideal.Gen.bcast_S4x1x2048_S4x8192x2048_0_1_2 (addf (broadcastInDim Cert.Reference2Ideal.S4x1x2048 ![] Cert.Reference2Ideal.Gen.bcast_S_S4x1x2048 (constant Cert.Reference2Ideal.S_ .f32 0x3F800000#32)) (broadcastInDim Cert.Reference2Ideal.S4x1x2048 ![0, 2] Cert.Reference2Ideal.Gen.bcast_S4x2048_S4x1x2048_0_2 (shapeCast _ (extractStridedSlice Cert.Reference2Ideal.S4x1x2048 ![0, 4, 0] M Cert.Reference2Ideal.Gen.slices_S4x6x2048_S4x1x2048_0_4_0) Cert.Reference2Ideal.Gen.shapeCasts_S4x1x2048_S4x2048))))) (broadcastInDim Cert.Reference2Ideal.S4x8192x2048 ![0, 1, 2] Cert.Reference2Ideal.Gen.bcast_S4x1x2048_S4x8192x2048_0_1_2 (broadcastInDim Cert.Reference2Ideal.S4x1x2048 ![0, 2] Cert.Reference2Ideal.Gen.bcast_S4x2048_S4x1x2048_0_2 (shapeCast _ (extractStridedSlice Cert.Reference2Ideal.S4x1x2048 ![0, 3, 0] M Cert.Reference2Ideal.Gen.slices_S4x6x2048_S4x1x2048_0_3_0) Cert.Reference2Ideal.Gen.shapeCasts_S4x1x2048_S4x2048)))) Cert.Reference2Ideal.Gen.bitsLt_bf16_f32

/-- An entry of the modulated norm. -/
theorem mod_at (P : FVec Ideal Cert.Reference2Ideal.S4x8192x2048 .f32) (M : FVec Ideal Cert.Reference2Ideal.S4x6x2048 .f32) (G : FVec Ideal Cert.Reference2Ideal.S2048 .f32)
    (b : Fin 4) (r : Fin 8192) (c : Fin 2048) :
    mod P M G (ix3 b r c) = P (ix3 b r c) * Ideal.rsqrt (Ideal.div (∑ k : Fin 2048, P (ix3 b r k) * P (ix3 b r k)) (Ideal.ofBits .f32 0x45000000#32)
      + Ideal.ofBits .f32 0x358637BD#32) * G (ix1 c) * (Ideal.ofBits .f32 0x3F800000#32 + M (ix3 b 4 c)) + M (ix3 b 3 c) := by
  pointwise [mod]

/-- An entry of the residual stream: the token plus the gate row times the projection, summed over the attention's and the recurrence's channels. -/
theorem res_at (A Ss : FVec Ideal Cert.Reference2Ideal.S4x8192x1024 .bf16) (X : FVec Ideal Cert.Reference2Ideal.S4x8192x2048 .f32) (M : FVec Ideal Cert.Reference2Ideal.S4x6x2048 .f32)
    (W : FVec Ideal Cert.Reference2Ideal.S2048x2048 .bf16) (b : Fin 4) (r : Fin 8192) (c : Fin 2048) :
    res A Ss X M W (ix3 b r c) = X (ix3 b r c) + M (ix3 b 2 c) * (∑ k : Fin 1024, A (ix3 b r k) * W (ix2 ⟨k.val, by omega⟩ c)
      + ∑ k : Fin 1024, Ss (ix3 b r k) * W (ix2 ⟨1024 + k.val, by omega⟩ c)) := by
  pointwise [res]

end Cert.Outp

end
-- ==== Proof.OutValue.lean ====
module

public import proofs.«01_k».proof.Proof.Gen.Kernel2Ideal.Frame
public import Idealize.ShloMosaic.Lib.Pipeline.ValueKit
public import proofs.«01_k».proof.Proof.OutRef

@[expose] public section

set_option maxRecDepth 16384

noncomputable section

/-! The output projection's two result arrays are the reference's. -/

namespace Cert.Outp

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The attention's output. -/
abbrev aA (c : Dev nD) : FVec Ideal Cert.Reference2Ideal.S4x8192x1024 .bf16 := m ((c : Thread nD τ).loc main_arg0)
/-- The recurrence's output. -/
abbrev aS (c : Dev nD) : FVec Ideal Cert.Reference2Ideal.S4x8192x1024 .bf16 := m ((c : Thread nD τ).loc main_arg1)
/-- The layer's input. -/
abbrev aX (c : Dev nD) : FVec Ideal Cert.Reference2Ideal.S4x8192x2048 .f32 := m ((c : Thread nD τ).loc main_arg2)
/-- The six modulation rows of each sequence. -/
abbrev aM (c : Dev nD) : FVec Ideal Cert.Reference2Ideal.S4x6x2048 .f32 := m ((c : Thread nD τ).loc main_arg3)
/-- The norm's gain. -/
abbrev aG (c : Dev nD) : FVec Ideal Cert.Reference2Ideal.S2048 .f32 := m ((c : Thread nD τ).loc main_arg4)
/-- The projection's weights. -/
abbrev aW (c : Dev nD) : FVec Ideal Cert.Reference2Ideal.S2048x2048 .bf16 := m ((c : Thread nD τ).loc main_arg5)

/-- The windows' block indices at grid point `t`: batch `t / 16`, row block `t % 16`. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, 0, 0] ∧ win0_4.index t = ![0, 0]
    ∧ win0_5.index t = ![0, 0] ∧ win0_6.index t = ![t.val / 16, t.val % 16, 0] ∧ win0_7.index t = ![t.val / 16, t.val % 16, 0] :=
  (by decide +kernel : ∀ t : Fin grid0.N, _)

/-- One block of the residual stream, from the input blocks. -/
def bres (x0 x1 : FVec Ideal S1x512x1024 .bf16) (x2 : FVec Ideal S1x512x2048 .f32) (x3 : FVec Ideal S1x6x2048 .f32)
    (x5 : FVec Ideal S2048x2048 .bf16) : FVec Ideal S1x512x2048 .f32 := fun y =>
  x2 (ix3 0 (y 1) (y 2)) + x3 (ix3 0 2 (y 2)) * (∑ k : Fin 1024, x0 (ix3 0 (y 1) k) * x5 (ix2 ⟨k.val, by omega⟩ (y 2))
    + ∑ k : Fin 1024, x1 (ix3 0 (y 1) k) * x5 (ix2 ⟨1024 + k.val, by omega⟩ (y 2)))

/-- One block of the modulated stream, from a block of the residual stream. -/
def bmod (P : FVec Ideal S1x512x2048 .f32) (x3 : FVec Ideal S1x6x2048 .f32) (x4 : FVec Ideal S1x2048 .f32) : FVec Ideal S1x512x2048 .bf16 := fun y =>
  P (ix3 0 (y 1) (y 2)) * Ideal.rsqrt (Ideal.div (∑ k : Fin 2048, P (ix3 0 (y 1) k) * P (ix3 0 (y 1) k)) (Ideal.ofBits .f32 0x45000000#32)
    + Ideal.ofBits .f32 0x358637BD#32) * x4 (ix2 0 (y 2)) * (Ideal.ofBits .f32 0x3F800000#32 + x3 (ix3 0 4 (y 2))) + x3 (ix3 0 3 (y 2))

/-- The two row tiles of the first result's block make up the block. -/
theorem out6_eq (x0 x1 : FVec Ideal S1x512x1024 .bf16) (x2 : FVec Ideal S1x512x2048 .f32) (x3 : FVec Ideal S1x6x2048 .f32) (x4 : FVec Ideal S1x2048 .f32)
    (x5 : FVec Ideal S2048x2048 .bf16) (y : S1x512x2048.Idx) : out0_6 (F := Ideal) x0 x1 x2 x3 x4 x5 y = bres x0 x1 x2 x3 x5 y := by
  unfold out0_6 bres k0_pay11 k0_pay12
  canon_tiles x h
  all_goals (open_payloads; pointwise; blk_point [])

/-- The two row tiles of the second result's block make up the block. -/
theorem out7_eq (x0 x1 : FVec Ideal S1x512x1024 .bf16) (x2 : FVec Ideal S1x512x2048 .f32) (x3 : FVec Ideal S1x6x2048 .f32) (x4 : FVec Ideal S1x2048 .f32)
    (x5 : FVec Ideal S2048x2048 .bf16) (y : S1x512x2048.Idx) : out0_7 (F := Ideal) x0 x1 x2 x3 x4 x5 y = bmod (bres x0 x1 x2 x3 x5) x3 x4 y := by
  unfold out0_7 bmod bres k0_pay11 k0_pay12
  canon_tiles x h
  all_goals (open_payloads; pointwise; blk_point [])

/-- A block of the residual stream is the reference's at its place. -/
theorem bres_at (c : Dev nD) (t : Fin cfg0.N) (i : Fin 512) (col : Fin 2048) (b : Fin 4) (r : Fin 8192)
    (hb : b.val = t.val / 16) (hr : r.val = t.val % 16 * 512 + i.val) :
    bres (iblk m c 0 t) (iblk m c 1 t) (iblk m c 2 t) (iblk m c 3 t) (iblk m c 5 t) (ix3 0 i col)
      = res (aA m c) (aS m c) (aX m c) (aM m c) (aW m c) (ix3 b r col) := by
  rw [res_at]
  unfold bres
  blk_point [iblk, V, idx t]

/-- A block of the modulated stream is the reference's at its place. -/
theorem bmod_at (c : Dev nD) (t : Fin cfg0.N) (P : FVec Ideal S1x512x2048 .f32) (Q : FVec Ideal Cert.Reference2Ideal.S4x8192x2048 .f32)
    (i : Fin 512) (col : Fin 2048) (b : Fin 4) (r : Fin 8192) (hb : b.val = t.val / 16) (hP : ∀ k : Fin 2048, P (ix3 0 i k) = Q (ix3 b r k)) :
    bmod P (iblk m c 3 t) (iblk m c 4 t) (ix3 0 i col) = mod Q (aM m c) (aG m c) (ix3 b r col) := by
  rw [mod_at]
  simp only [← hP]
  unfold bmod
  blk_point [iblk, V, idx t]

/-- The residual stream that the launch leaves is the reference's. -/
theorem final6 (c : Dev nD) : (dats m 0 c).arrAt 6 cfg0.N = res (aA m c) (aS m c) (aX m c) (aM m c) (aW m c) := by
  refine (dats m 0 c).arrAt_eq_of_covers 6 _ (by decide +kernel) fun t hf y => ?_
  blk_simp
  rw [after0_6]
  have hN : t.val < 64 := t.isLt
  have hy : (y 1).val < 512 := (y 1).isLt
  refine (out6_eq _ _ _ _ _ _ _).trans (Eq.trans ?_ ((bres_at m c t (y 1) (y 2) ⟨t.val / 16, by omega⟩ ⟨t.val % 16 * 512 + (y 1).val, by omega⟩ rfl rfl).trans ?_))
  · congr 1
    blk_ext
  · congr 1
    blk_ext [idx t]

/-- The modulated stream that the launch leaves is the reference's. -/
theorem final7 (c : Dev nD) : (dats m 0 c).arrAt 7 cfg0.N = mod (res (aA m c) (aS m c) (aX m c) (aM m c) (aW m c)) (aM m c) (aG m c) := by
  refine (dats m 0 c).arrAt_eq_of_covers 7 _ (by decide +kernel) fun t hf y => ?_
  blk_simp
  rw [after0_7]
  have hN : t.val < 64 := t.isLt
  have hy : (y 1).val < 512 := (y 1).isLt
  refine (out7_eq _ _ _ _ _ _ _).trans (Eq.trans ?_ ((bmod_at m c t _ _ (y 1) (y 2) ⟨t.val / 16, by omega⟩ ⟨t.val % 16 * 512 + (y 1).val, by omega⟩ rfl
    (fun k => bres_at m c t (y 1) k _ _ rfl rfl)).trans ?_))
  · congr 1
    blk_ext
  · congr 1
    blk_ext [idx t]

end Cert.Outp

end
-- ==== Proof.OutClaim.lean ====
module

public import proofs.«01_k».proof.Defs
public import proofs.«01_k».proof.Proof.OutValue
public import proofs.«01_k».proof.Proof.Gen.Kernel2Ideal.Value

@[expose] public section

set_option maxRecDepth 16384

noncomputable section

/-! The claim about the output projection's kernel and its reference. -/

namespace Cert.Outp

open Idealize.ShloMosaic Idealize.ShloMosaic.TcCoe Idealize.SL.Sem

/-- From any arguments, the kernel's two result arrays and the reference's agree. -/
theorem algebraic : Cert.algebraic_Kernel2Ideal_Reference2Ideal := by
  pair_intro
  · run_from Cert.Kernel2Ideal.Value.run_blocks m g
  · run_from Cert.Reference2Ideal.Value.run m' g'
    · exact (final6 m c).symm
    · exact (final7 m c).symm

end Cert.Outp

end
-- ==== Proof.InBlock.lean ====
module

public import proofs.«01_k».proof.Proof.Gen.Kernel3Ideal.Frame
public import Idealize.ShloMosaic.Lib.Pipeline.ValueKit

@[expose] public section

set_option maxRecDepth 16384

noncomputable section

/-! What one grid point of the input projection computes, from its input blocks. -/

namespace Cert.Inp

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The table that scales the weights' columns: the query scale on the first 1024 columns, one on the others. -/
theorem lit_at : ∀ j : Fin 5648, lit0 j = if j.val < 1024 then 0x3E38AA3B#32 else 0x3F800000#32 := by decide +kernel

/-- The block of modulated tokens, from the blocks of the tokens, the modulation and the gain. -/
def hb (x0 : FVec Ideal S1x512x2048 .f32) (x1 : FVec Ideal S1x6x2048 .f32) (x2 : FVec Ideal S1x2048 .f32) : FVec Ideal S512x2048 .bf16 := fun y =>
  x0 (ix3 0 (y 0) (y 1)) * Ideal.rsqrt (Ideal.div (∑ k : Fin 2048, x0 (ix3 0 (y 0) k) * x0 (ix3 0 (y 0) k)) (Ideal.ofBits .f32 0x45000000#32)
    + Ideal.ofBits .f32 0x358637BD#32) * x2 (ix2 0 (y 1)) * (Ideal.ofBits .f32 0x3F800000#32 + x1 (ix3 0 1 (y 1))) + x1 (ix3 0 0 (y 1))

/-- What the body keeps in its scratch buffer is the block of modulated tokens. -/
theorem hb_eq (x0 : Vec Ideal S1x512x2048 .f32) (x1 : Vec Ideal S1x6x2048 .f32) (x2 : Vec Ideal S1x2048 .f32) :
    k0_pay9 (k0_pay8 x0 x2) (View.ld x1 (Rect.unit ![0, 1, 0] ![1, 1, 2048] inb_S1x6x2048_S1x1x2048_0_1_0))
      (View.ld x1 (Rect.unit ![0, 0, 0] ![1, 1, 2048] inb_S1x6x2048_S1x1x2048_0_0_0)) = hb x0 x1 x2 := by
  funext y
  unfold hb
  open_payloads
  pointwise

/-- A row of the block of modulated tokens against a row of the transposed weights' columns starting at `o`. -/
def rowdot {n : ℕ} (h : FVec Ideal S512x2048 .bf16) (w : FVec Ideal S5648x2048 .bf16) (o : ℕ) (hn : o + n ≤ 5648) (i : Fin 512) (j : Fin n) : EReal :=
  ∑ k : Fin 2048, h (ix2 i k) * w (ix2 ⟨o + j.val, by omega⟩ k)

/-- The block of query columns. -/
theorem q_eq (c : Dev nD) (t : Fin cfg0.N) (y : S1x512x1024.Idx) : (outsAt0 m c t).1 y
    = rowdot (hb (iblk m c 0 t) (iblk m c 1 t) (iblk m c 2 t)) (iblk m c 3 t) 0 (n := 1024) (by omega) (y 1) (y 2) := by
  unfold outsAt0
  frame_out
  simp only [hb_eq]
  generalize hb (iblk m c 0 t) (iblk m c 1 t) (iblk m c 2 t) = h
  unfold rowdot
  canon_tiles x hx
  all_goals (open_payloads; pointwise; blk_point [])

/-- The block of key columns. -/
theorem k_eq (c : Dev nD) (t : Fin cfg0.N) (y : S1x512x1024.Idx) : (outsAt0 m c t).2.1 y
    = rowdot (hb (iblk m c 0 t) (iblk m c 1 t) (iblk m c 2 t)) (iblk m c 3 t) 1024 (n := 1024) (by omega) (y 1) (y 2) := by
  unfold outsAt0
  frame_out
  simp only [hb_eq]
  generalize hb (iblk m c 0 t) (iblk m c 1 t) (iblk m c 2 t) = h
  unfold rowdot
  canon_tiles x hx
  all_goals (open_payloads; pointwise; blk_point [])

/-- The block of value columns. -/
theorem v_eq (c : Dev nD) (t : Fin cfg0.N) (y : S1x512x1024.Idx) : (outsAt0 m c t).2.2.1 y
    = rowdot (hb (iblk m c 0 t) (iblk m c 1 t) (iblk m c 2 t)) (iblk m c 3 t) 2048 (n := 1024) (by omega) (y 1) (y 2) := by
  unfold outsAt0
  frame_out
  simp only [hb_eq]
  generalize hb (iblk m c 0 t) (iblk m c 1 t) (iblk m c 2 t) = h
  unfold rowdot
  canon_tiles x hx
  all_goals (open_payloads; pointwise; blk_point [])

/-- The block of gate columns. -/
theorem z_eq (c : Dev nD) (t : Fin cfg0.N) (y : S1x512x1024.Idx) : (outsAt0 m c t).2.2.2.1 y
    = rowdot (hb (iblk m c 0 t) (iblk m c 1 t) (iblk m c 2 t)) (iblk m c 3 t) 3072 (n := 1024) (by omega) (y 1) (y 2) := by
  unfold outsAt0
  frame_out
  simp only [hb_eq]
  generalize hb (iblk m c 0 t) (iblk m c 1 t) (iblk m c 2 t) = h
  unfold rowdot
  canon_tiles x hx
  all_goals (open_payloads; pointwise; blk_point [])

/-- The block of convolution columns. -/
theorem x_eq (c : Dev nD) (t : Fin cfg0.N) (y : S1x512x1536.Idx) : (outsAt0 m c t).2.2.2.2.1 y
    = rowdot (hb (iblk m c 0 t) (iblk m c 1 t) (iblk m c 2 t)) (iblk m c 3 t) 4096 (n := 1536) (by omega) (y 1) (y 2) := by
  unfold outsAt0
  frame_out
  simp only [hb_eq]
  generalize hb (iblk m c 0 t) (iblk m c 1 t) (iblk m c 2 t) = h
  unfold rowdot
  canon_tiles x hx
  all_goals (open_payloads; pointwise; blk_point [])

/-- The block of step-size columns. -/
theorem dt_eq (c : Dev nD) (t : Fin cfg0.N) (y : S1x512x128.Idx) : (outsAt0 m c t).2.2.2.2.2.1 y
    = ∑ k : Fin 2048, hb (iblk m c 0 t) (iblk m c 1 t) (iblk m c 2 t) (ix2 (y 1) k) * (iblk m c 4 t : Vec Ideal S128x2048 .bf16) (ix2 (y 2) k) := by
  unfold outsAt0
  frame_out
  simp only [hb_eq]
  generalize hb (iblk m c 0 t) (iblk m c 1 t) (iblk m c 2 t) = h
  pointwise [k0_pay3]

/-- The block of weight 0 that this point casts. -/
theorem cast0_eq (c : Dev nD) (t : Fin cfg0.N) (y : S32x2048.Idx) : (outsAt0 m c t).2.2.2.2.2.2.1 y = (iblk m c 5 t : Vec Ideal S32x2048 .f32) y := by
  unfold outsAt0
  frame_out
  pointwise [k0_pay4]

/-- The block of weight 1 that this point casts. -/
theorem cast1_eq (c : Dev nD) (t : Fin cfg0.N) (y : S32x5632.Idx) : (outsAt0 m c t).2.2.2.2.2.2.2.1 y = (iblk m c 6 t : Vec Ideal S32x5632 .f32) y := by
  unfold outsAt0
  frame_out
  pointwise [k0_pay5]

/-- The block of weight 2 that this point casts. -/
theorem cast2_eq (c : Dev nD) (t : Fin cfg0.N) (y : S32x5632.Idx) : (outsAt0 m c t).2.2.2.2.2.2.2.2.1 y = (iblk m c 7 t : Vec Ideal S32x5632 .f32) y := by
  unfold outsAt0
  frame_out
  pointwise [k0_pay6]

/-- The block of weight 3 that this point casts. -/
theorem cast3_eq (c : Dev nD) (t : Fin cfg0.N) (y : S128x2048.Idx) : (outsAt0 m c t).2.2.2.2.2.2.2.2.2 y = (iblk m c 8 t : Vec Ideal S128x2048 .f32) y := by
  unfold outsAt0
  frame_out
  pointwise [k0_pay7]

end Cert.Inp

end
-- ==== Proof.InRef.lean ====
module

public import proofs.«01_k».proof.Proof.Gen.Reference3Ideal.Run
public import Idealize.ShloMosaic.Lib.Pipeline.ValueKit

@[expose] public section

set_option maxRecDepth 16384

noncomputable section

/-! The input projection's reference, cut into its stages, and each stage read at an index. -/

namespace Cert.Inp

open Idealize.ShloMosaic Idealize.ShloMosaic.TcCoe

/-- The normalised and modulated tokens. -/
def hh (X : FVec Ideal Cert.Reference3Ideal.S4x8192x2048 .f32) (M : FVec Ideal Cert.Reference3Ideal.S4x6x2048 .f32) (G : FVec Ideal Cert.Reference3Ideal.S2048 .f32) : FVec Ideal Cert.Reference3Ideal.S4x8192x2048 .f32 :=
  addf (mulf (mulf (mulf X (broadcastInDim Cert.Reference3Ideal.S4x8192x2048 ![0, 1, 2] Cert.Reference3Ideal.Gen.bcast_S4x8192x1_S4x8192x2048_0_1_2 (Host.rsqrt (addf (Host.divf (broadcastInDim Cert.Reference3Ideal.S4x8192x1 ![0, 1] Cert.Reference3Ideal.Gen.bcast_S4x8192_S4x8192x1_0_1 (Host.reduceAdd (mulf X X) (constant Cert.Reference3Ideal.S_ .f32 0x00000000#32) Cert.Reference3Ideal.Gen.reducesTo_S4x8192x2048_S4x8192_d2 Cert.Reference3Ideal.Gen.h_S_)) (broadcastInDim Cert.Reference3Ideal.S4x8192x1 ![] Cert.Reference3Ideal.Gen.bcast_S_S4x8192x1 (constant Cert.Reference3Ideal.S_ .f32 0x45000000#32))) (broadcastInDim Cert.Reference3Ideal.S4x8192x1 ![] Cert.Reference3Ideal.Gen.bcast_S_S4x8192x1 (constant Cert.Reference3Ideal.S_ .f32 0x358637BD#32)))))) (broadcastInDim Cert.Reference3Ideal.S4x8192x2048 ![0, 1, 2] Cert.Reference3Ideal.Gen.bcast_S1x1x2048_S4x8192x2048_0_1_2 (broadcastInDim Cert.Reference3Ideal.S1x1x2048 ![2] Cert.Reference3Ideal.Gen.bcast_S2048_S1x1x2048_2 G))) (broadcastInDim Cert.Reference3Ideal.S4x8192x2048 ![0, 1, 2] Cert.Reference3Ideal.Gen.bcast_S4x1x2048_S4x8192x2048_0_1_2 (addf (broadcastInDim Cert.Reference3Ideal.S4x1x2048 ![] Cert.Reference3Ideal.Gen.bcast_S_S4x1x2048 (constant Cert.Reference3Ideal.S_ .f32 0x3F800000#32)) (broadcastInDim Cert.Reference3Ideal.S4x1x2048 ![0, 2] Cert.Reference3Ideal.Gen.bcast_S4x2048_S4x1x2048_0_2 (shapeCast _ (extractStridedSlice Cert.Reference3Ideal.S4x1x2048 ![0, 1, 0] M Cert.Reference3Ideal.Gen.slices_S4x6x2048_S4x1x2048_0_1_0) Cert.Reference3Ideal.Gen.shapeCasts_S4x1x2048_S4x2048))))) (broadcastInDim Cert.Reference3Ideal.S4x8192x2048 ![0, 1, 2] Cert.Reference3Ideal.Gen.bcast_S4x1x2048_S4x8192x2048_0_1_2 (broadcastInDim Cert.Reference3Ideal.S4x1x2048 ![0, 2] Cert.Reference3Ideal.Gen.bcast_S4x2048_S4x1x2048_0_2 (shapeCast _ (extractStridedSlice Cert.Reference3Ideal.S4x1x2048 ![0, 0, 0] M Cert.Reference3Ideal.Gen.slices_S4x6x2048_S4x1x2048_0_0_0) Cert.Reference3Ideal.Gen.shapeCasts_S4x1x2048_S4x2048)))

/-- All the columns of the projection. -/
def cols (H : FVec Ideal Cert.Reference3Ideal.S4x8192x2048 .f32) (W : FVec Ideal Cert.Reference3Ideal.S2048x5648 .f32) : FVec Ideal Cert.Reference3Ideal.S4x8192x5648 .f32 :=
  Host.dotGeneral Cert.Reference3Ideal.dot_S4x8192x2048_S2048x5648_S4x8192x5648_2_0_01_1_n_n none H W

/-- The query columns, scaled. -/
def qq (Y : FVec Ideal Cert.Reference3Ideal.S4x8192x5648 .f32) : FVec Ideal Cert.Reference3Ideal.S4x8192x1024 .bf16 :=
  truncf .bf16 (mulf (extractStridedSlice Cert.Reference3Ideal.S4x8192x1024 ![0, 0, 0] Y Cert.Reference3Ideal.Gen.slices_S4x8192x5648_S4x8192x1024_0_0_0) (broadcastInDim Cert.Reference3Ideal.S4x8192x1024 ![] Cert.Reference3Ideal.Gen.bcast_S_S4x8192x1024 (constant Cert.Reference3Ideal.S_ .f32 0x3E38AA3B#32))) Cert.Reference3Ideal.Gen.bitsLt_bf16_f32

/-- The key columns. -/
def kk (Y : FVec Ideal Cert.Reference3Ideal.S4x8192x5648 .f32) : FVec Ideal Cert.Reference3Ideal.S4x8192x1024 .bf16 :=
  truncf .bf16 (extractStridedSlice Cert.Reference3Ideal.S4x8192x1024 ![0, 0, 1024] Y Cert.Reference3Ideal.Gen.slices_S4x8192x5648_S4x8192x1024_0_0_1024) Cert.Reference3Ideal.Gen.bitsLt_bf16_f32

/-- The value columns. -/
def vv (Y : FVec Ideal Cert.Reference3Ideal.S4x8192x5648 .f32) : FVec Ideal Cert.Reference3Ideal.S4x8192x1024 .bf16 :=
  truncf .bf16 (extractStridedSlice Cert.Reference3Ideal.S4x8192x1024 ![0, 0, 2048] Y Cert.Reference3Ideal.Gen.slices_S4x8192x5648_S4x8192x1024_0_0_2048) Cert.Reference3Ideal.Gen.bitsLt_bf16_f32

/-- The gate columns. -/
def zz (Y : FVec Ideal Cert.Reference3Ideal.S4x8192x5648 .f32) : FVec Ideal Cert.Reference3Ideal.S4x8192x1024 .bf16 :=
  truncf .bf16 (extractStridedSlice Cert.Reference3Ideal.S4x8192x1024 ![0, 0, 3072] Y Cert.Reference3Ideal.Gen.slices_S4x8192x5648_S4x8192x1024_0_0_3072) Cert.Reference3Ideal.Gen.bitsLt_bf16_f32

/-- The convolution's columns. -/
def xx (Y : FVec Ideal Cert.Reference3Ideal.S4x8192x5648 .f32) : FVec Ideal Cert.Reference3Ideal.S4x8192x1536 .bf16 :=
  truncf .bf16 (extractStridedSlice Cert.Reference3Ideal.S4x8192x1536 ![0, 0, 4096] Y Cert.Reference3Ideal.Gen.slices_S4x8192x5648_S4x8192x1536_0_0_4096) Cert.Reference3Ideal.Gen.bitsLt_bf16_f32

/-- The step-size columns, padded to a lane tile. -/
def dt (Y : FVec Ideal Cert.Reference3Ideal.S4x8192x5648 .f32) : FVec Ideal Cert.Reference3Ideal.S4x8192x128 .f32 :=
  pad Cert.Reference3Ideal.S4x8192x128 ![0, 0, 0] ![0, 0, 112] ![0, 0, 0] (extractStridedSlice Cert.Reference3Ideal.S4x8192x16 ![0, 0, 5632] Y Cert.Reference3Ideal.Gen.slices_S4x8192x5648_S4x8192x16_0_0_5632) (sitofp .f32 (constantI Cert.Reference3Ideal.S_ 32 0#32)) Cert.Reference3Ideal.Gen.pads_S4x8192x16_S4x8192x128_000_000_01120 Cert.Reference3Ideal.Gen.h_S_

/-- An entry of the modulated norm. -/
theorem hh_at (X : FVec Ideal Cert.Reference3Ideal.S4x8192x2048 .f32) (M : FVec Ideal Cert.Reference3Ideal.S4x6x2048 .f32) (G : FVec Ideal Cert.Reference3Ideal.S2048 .f32) (b : Fin 4) (r : Fin 8192) (k : Fin 2048) :
    hh X M G (ix3 b r k) = X (ix3 b r k) * Ideal.rsqrt (Ideal.div (∑ k : Fin 2048, X (ix3 b r k) * X (ix3 b r k)) (Ideal.ofBits .f32 0x45000000#32)
      + Ideal.ofBits .f32 0x358637BD#32) * G (ix1 k) * (Ideal.ofBits .f32 0x3F800000#32 + M (ix3 b 1 k)) + M (ix3 b 0 k) := by
  pointwise [hh]

/-- An entry of the projection is a sum over the 2048 channels. -/
theorem cols_at (H : FVec Ideal Cert.Reference3Ideal.S4x8192x2048 .f32) (W : FVec Ideal Cert.Reference3Ideal.S2048x5648 .f32) (b : Fin 4) (r : Fin 8192) (j : Fin 5648) :
    cols H W (ix3 b r j) = ∑ k : Fin 2048, H (ix3 b r k) * W (ix2 k j) := by
  pointwise [cols]

/-- The keys are columns 1024 to 2047. -/
theorem kk_at (Y : FVec Ideal Cert.Reference3Ideal.S4x8192x5648 .f32) (b : Fin 4) (r : Fin 8192) (j : Fin 1024) : kk Y (ix3 b r j) = Y (ix3 b r ⟨1024 + j.val, by omega⟩) := by
  pointwise [kk]

/-- The values are columns 2048 to 3071. -/
theorem vv_at (Y : FVec Ideal Cert.Reference3Ideal.S4x8192x5648 .f32) (b : Fin 4) (r : Fin 8192) (j : Fin 1024) : vv Y (ix3 b r j) = Y (ix3 b r ⟨2048 + j.val, by omega⟩) := by
  pointwise [vv]

/-- The gate of the recurrence is columns 3072 to 4095. -/
theorem zz_at (Y : FVec Ideal Cert.Reference3Ideal.S4x8192x5648 .f32) (b : Fin 4) (r : Fin 8192) (j : Fin 1024) : zz Y (ix3 b r j) = Y (ix3 b r ⟨3072 + j.val, by omega⟩) := by
  pointwise [zz]

/-- The recurrence's input is columns 4096 to 5631. -/
theorem xx_at (Y : FVec Ideal Cert.Reference3Ideal.S4x8192x5648 .f32) (b : Fin 4) (r : Fin 8192) (j : Fin 1536) : xx Y (ix3 b r j) = Y (ix3 b r ⟨4096 + j.val, by omega⟩) := by
  pointwise [xx]

/-- The queries are the first 1024 columns, scaled. -/
theorem qq_at (Y : FVec Ideal Cert.Reference3Ideal.S4x8192x5648 .f32) (b : Fin 4) (r : Fin 8192) (j : Fin 1024) :
    qq Y (ix3 b r j) = Y (ix3 b r ⟨j.val, by omega⟩) * Ideal.ofBits .f32 0x3E38AA3B#32 := by
  pointwise [qq]

/-- The step sizes are the last 16 columns, padded with zeros to 128. -/
theorem dt_at (Y : FVec Ideal Cert.Reference3Ideal.S4x8192x5648 .f32) (b : Fin 4) (r : Fin 8192) (j : Fin 128) :
    dt Y (ix3 b r j) = if h : j.val < 16 then Y (ix3 b r ⟨5632 + j.val, by omega⟩) else 0 := by
  have e : (FloatOps.sitofp .f32 0#32 : Ideal .f32) = (0 : EReal) := by
    show (((0#32 : BitVec 32).toInt : ℝ) : EReal) = 0
    simp
  pointwise [dt]
  rw [e]

end Cert.Inp

end
-- ==== Proof.InRows.lean ====
module

public import proofs.«01_k».proof.Proof.InBlock
public import proofs.«01_k».proof.Proof.InRef

@[expose] public section

set_option maxRecDepth 16384

noncomputable section

/-! The rows of the input projection's blocks are the reference's. -/

namespace Cert.Inp

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The layer's input. -/
abbrev aX (c : Dev nD) : FVec Ideal Cert.Reference3Ideal.S4x8192x2048 .f32 := m ((c : Thread nD τ).loc main_arg0)
/-- The six modulation rows of each sequence. -/
abbrev aM (c : Dev nD) : FVec Ideal Cert.Reference3Ideal.S4x6x2048 .f32 := m ((c : Thread nD τ).loc main_arg1)
/-- The norm's gain. -/
abbrev aG (c : Dev nD) : FVec Ideal Cert.Reference3Ideal.S2048 .f32 := m ((c : Thread nD τ).loc main_arg2)
/-- The projection's weights. -/
abbrev aW (c : Dev nD) : FVec Ideal Cert.Reference3Ideal.S2048x5648 .f32 := m ((c : Thread nD τ).loc main_arg3)

/-- The windows' block indices at grid point `t`: batch `t / 16`, row block `t % 16`; the cast weights' blocks go with the step. -/
theorem idx : ∀ t : Fin cfg0.N, win0_0.index t = ![t.val / 16, t.val % 16, 0] ∧ win0_1.index t = ![t.val / 16, 0, 0] ∧ win0_2.index t = ![0, 0]
    ∧ win0_3.index t = ![0, 0] ∧ win0_4.index t = ![0, 0] ∧ win0_5.index t = ![t.val, 0] ∧ win0_6.index t = ![t.val, 0] ∧ win0_7.index t = ![t.val, 0]
    ∧ win0_8.index t = ![min t.val 43, 0] ∧ win0_9.index t = ![t.val / 16, t.val % 16, 0] ∧ win0_10.index t = ![t.val / 16, t.val % 16, 0]
    ∧ win0_11.index t = ![t.val / 16, t.val % 16, 0] ∧ win0_12.index t = ![t.val / 16, t.val % 16, 0] ∧ win0_13.index t = ![t.val / 16, t.val % 16, 0]
    ∧ win0_14.index t = ![t.val / 16, t.val % 16, 0] ∧ win0_15.index t = ![t.val, 0] ∧ win0_16.index t = ![t.val, 0] ∧ win0_17.index t = ![t.val, 0]
    ∧ win0_18.index t = ![min t.val 43, 0] :=
  (by decide +kernel : ∀ t : Fin grid0.N, _)

/-- The gain as the kernel reads it: the host only reshapes it. -/
theorem V_gain (c : Dev nD) : V m c main_v7 = shapeCast S1x2048 (m ((c : Thread nD τ).loc main_arg2)) shapeCasts_S2048_S1x2048 := by
  show StableHlo.after (hostOps0 ++ (hostOps0_1 ++ (hostOps0_2 ++ []))) _ _ = _
  simp only [hostOps0, hostOps0_1, hostOps0_2, List.cons_append, List.nil_append, StableHlo.TRef.binary, StableHlo.TRef.nullary, StableHlo.TRef.unary, StableHlo.TRef.toBuf, StableHlo.TRef.ofBuf, cast_eq]
  after_results_simp <;> rfl

/-- The weights as the host leaves them: transposed, scaled by the table, rounded. -/
theorem V_w (c : Dev nD) : V m c main_v4 = (truncf .bf16 (mulf (transpose S5648x2048 [1, 0] (m ((c : Thread nD τ).loc main_arg3)) transposes_S2048x5648_S5648x2048_1_0)
    (broadcastInDim S5648x2048 ![0, 1] bcast_S5648x1_S5648x2048_0_1 (broadcastInDim S5648x1 ![0] bcast_S5648_S5648x1_0
      (fun i => Ideal.ofBits .f32 (lit0 (S5648.rowMajor i)))))) bitsLt_bf16_f32 : FVec Ideal S5648x2048 .bf16) := by
  show StableHlo.after (hostOps0 ++ (hostOps0_1 ++ (hostOps0_2 ++ []))) _ _ = _
  simp only [hostOps0, hostOps0_1, hostOps0_2, List.cons_append, List.nil_append, StableHlo.TRef.binary, StableHlo.TRef.nullary, StableHlo.TRef.unary, StableHlo.TRef.toBuf, StableHlo.TRef.ofBuf, cast_eq]
  after_results_simp <;> rfl

/-- The step-size weights as the host leaves them: the last sixteen rows of the transposed weights, padded. -/
theorem V_wdt (c : Dev nD) : V m c main_v6 = (pad S128x2048 ![0, 0] ![112, 0] ![0, 0]
    (extractStridedSlice S16x2048 ![5632, 0] (V m c main_v4 : FVec Ideal S5648x2048 .bf16) slices_S5648x2048_S16x2048_5632_0)
    (sitofp .bf16 (constantI S_ 32 0#32)) pads_S16x2048_S128x2048_01120_000 h_S_ : FVec Ideal S128x2048 .bf16) := by
  rw [V_w]
  show StableHlo.after (hostOps0 ++ (hostOps0_1 ++ (hostOps0_2 ++ []))) _ _ = _
  simp only [hostOps0, hostOps0_1, hostOps0_2, List.cons_append, List.nil_append, StableHlo.TRef.binary, StableHlo.TRef.nullary, StableHlo.TRef.unary, StableHlo.TRef.toBuf, StableHlo.TRef.ofBuf, cast_eq]
  after_results_simp <;> rfl

/-- A block of modulated tokens is the reference's at its place. -/
theorem hb_at (c : Dev nD) (t : Fin cfg0.N) (i : Fin 512) (k : Fin 2048) (b : Fin 4) (r : Fin 8192)
    (hb0 : b.val = t.val / 16) (hr : r.val = t.val % 16 * 512 + i.val) :
    hb (iblk m c 0 t) (iblk m c 1 t) (iblk m c 2 t) (ix2 i k) = hh (aX m c) (aM m c) (aG m c) (ix3 b r k) := by
  rw [hh_at]
  unfold hb
  blk_point [iblk, V, idx t]
  rw [V_gain]
  pointwise
  blk_point [idx t]

/-- The weights as the kernel reads them: transposed, each column scaled by the table's entry. -/
theorem w_at (c : Dev nD) (t : Fin cfg0.N) (j : Fin 5648) (k : Fin 2048) :
    (iblk m c 3 t : Vec Ideal S5648x2048 .bf16) (ix2 j k) = aW m c (ix2 k j) * Ideal.ofBits .f32 (lit0 j) := by
  blk_simp [iblk, idx t]
  rw [V_w]
  pointwise
  have e : ((View.whole main_v4).slice (win0_3.rect t)).emb (ix2 j k) = ix2 j k := by blk_ext [idx t]
  have e' : S5648.rowMajor (ix1 j) = j := Fin.ext (Shape.rowMajor_val_one _)
  rw [e]
  show aW m c (ix2 k j) * Ideal.ofBits .f32 (lit0 (S5648.rowMajor (ix1 j))) = _
  rw [e']

/-- The step-size weights as the host leaves them, at an index. -/
theorem V_wdt_at (c : Dev nD) (j : Fin 128) (k : Fin 2048) : (V m c main_v6 : FVec Ideal S128x2048 .bf16) (ix2 j k)
    = if h : j.val < 16 then aW m c (ix2 k ⟨5632 + j.val, by omega⟩) * Ideal.ofBits .f32 (lit0 ⟨5632 + j.val, by omega⟩) else 0 := by
  have e0 : (FloatOps.sitofp .bf16 0#32 : Ideal .bf16) = (0 : EReal) := by
    show (((0#32 : BitVec 32).toInt : ℝ) : EReal) = 0
    simp
  have e1 : ∀ j : Fin 5648, S5648.rowMajor (ix1 j) = j := fun j => Fin.ext (Shape.rowMajor_val_one _)
  rw [V_wdt, V_w]
  pointwise
  by_cases h : j.val < 16
  · rw [dif_pos h, dif_pos h, e1]
  · rw [dif_neg h, dif_neg h, e0]

/-- The step-size weights as the kernel reads them: sixteen columns and zeros. -/
theorem wdt_at (c : Dev nD) (t : Fin cfg0.N) (j : Fin 128) (k : Fin 2048) :
    (iblk m c 4 t : Vec Ideal S128x2048 .bf16) (ix2 j k) = if h : j.val < 16 then aW m c (ix2 k ⟨5632 + j.val, by omega⟩) * Ideal.ofBits .f32 (lit0 ⟨5632 + j.val, by omega⟩) else 0 := by
  have e : ((View.whole main_v6).slice (win0_4.rect t)).emb (ix2 j k) = ix2 j k := by blk_ext [idx t]
  blk_simp [iblk, idx t]
  exact (congrArg (V m c main_v6) e).trans (V_wdt_at m c j k)

/-- The table's entries as numbers: one past the query columns. -/
theorem lit_one (j : Fin 5648) (h : 1024 ≤ j.val) : Ideal.ofBits .f32 (lit0 j) = 1 := by
  rw [lit_at, if_neg (by omega)]
  simp [Ideal.ofBits, Ideal.ieee, -EReal.coe_mul]
  norm_num

/-- The query scale is a nonnegative real. -/
theorem scale_real : ∃ s : ℝ, 0 ≤ s ∧ Ideal.ofBits .f32 0x3E38AA3B#32 = (s : EReal) := by
  refine ⟨_, ?_, by simp only [Ideal.ofBits, Ideal.ieee]; simp [-EReal.coe_mul]; rfl⟩
  positivity

/-- A nonnegative real factor comes out of a sum of extended reals. -/
theorem sum_mul_scale {ι : Type} (u : Finset ι) (f : ι → EReal) {s : ℝ} (hs : 0 ≤ s) : ∑ i ∈ u, f i * (s : EReal) = (∑ i ∈ u, f i) * (s : EReal) := by
  classical
  induction u using Finset.induction_on with
  | empty => simp
  | insert a u ha ih =>
    rw [Finset.sum_insert ha, Finset.sum_insert ha, ih, mul_comm (f a + _), mul_comm (f a), mul_comm (Finset.sum u f),
      EReal.left_distrib_of_nonneg_of_ne_top (by exact_mod_cast hs) (EReal.coe_ne_top s)]

/-- A row of the kernel's projection past the query columns is the reference's. -/
theorem row_at (c : Dev nD) (t : Fin cfg0.N) (i : Fin 512) {n : ℕ} (o : ℕ) (hn : o + n ≤ 5648) (j : Fin n) (b : Fin 4) (r : Fin 8192)
    (ho : 1024 ≤ o) (hb0 : b.val = t.val / 16) (hr : r.val = t.val % 16 * 512 + i.val) :
    rowdot (hb (iblk m c 0 t) (iblk m c 1 t) (iblk m c 2 t)) (iblk m c 3 t) o hn i j
      = cols (hh (aX m c) (aM m c) (aG m c)) (aW m c) (ix3 b r ⟨o + j.val, by omega⟩) := by
  rw [cols_at]
  refine Finset.sum_congr rfl fun k _ => ?_
  rw [hb_at m c t i k b r hb0 hr, w_at, lit_one _ (by show 1024 ≤ o + j.val; omega), mul_one]

/-- A row of the kernel's query columns is the reference's, scaled. -/
theorem qrow_at (c : Dev nD) (t : Fin cfg0.N) (i : Fin 512) (j : Fin 1024) (b : Fin 4) (r : Fin 8192)
    (hb0 : b.val = t.val / 16) (hr : r.val = t.val % 16 * 512 + i.val) :
    rowdot (hb (iblk m c 0 t) (iblk m c 1 t) (iblk m c 2 t)) (iblk m c 3 t) 0 (n := 1024) (by omega) i j
      = cols (hh (aX m c) (aM m c) (aG m c)) (aW m c) (ix3 b r ⟨j.val, by omega⟩) * Ideal.ofBits .f32 0x3E38AA3B#32 := by
  obtain ⟨s, hs, e⟩ := scale_real
  rw [cols_at, e, ← sum_mul_scale _ _ hs]
  refine Finset.sum_congr rfl fun k _ => ?_
  rw [hb_at m c t i k b r hb0 hr, w_at, lit_at, if_pos (by show 0 + j.val < 1024; omega), e, mul_assoc]
  congr 3
  exact congrArg (ix2 k) (Fin.ext (Nat.zero_add _))

/-- A row of the kernel's step-size columns is the reference's, padded. -/
theorem dtrow_at (c : Dev nD) (t : Fin cfg0.N) (i : Fin 512) (j : Fin 128) (b : Fin 4) (r : Fin 8192)
    (hb0 : b.val = t.val / 16) (hr : r.val = t.val % 16 * 512 + i.val) :
    ∑ k : Fin 2048, hb (iblk m c 0 t) (iblk m c 1 t) (iblk m c 2 t) (ix2 i k) * (iblk m c 4 t : Vec Ideal S128x2048 .bf16) (ix2 j k)
      = dt (cols (hh (aX m c) (aM m c) (aG m c)) (aW m c)) (ix3 b r j) := by
  rw [dt_at]
  split
  · next h =>
    rw [cols_at]
    refine Finset.sum_congr rfl fun k _ => ?_
    rw [hb_at m c t i k b r hb0 hr, wdt_at, dif_pos h, lit_one _ (by show 1024 ≤ 5632 + j.val; omega), mul_one]
  · next h =>
    refine Finset.sum_eq_zero fun k _ => ?_
    rw [wdt_at, dif_neg h, mul_zero]

end Cert.Inp

end
-- ==== Proof.InValue.lean ====
module

public import proofs.«01_k».proof.Proof.InRows

@[expose] public section

set_option maxRecDepth 16384

noncomputable section

/-! The input projection's ten result arrays are the reference's. -/

namespace Cert.Inp

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Result array 0 of the launch is the reference's. -/
theorem final9 (c : Dev nD) : (dats m 0 c).arrAt 9 cfg0.N = qq (cols (hh (aX m c) (aM m c) (aG m c)) (aW m c)) := by
  refine (dats m 0 c).arrAt_eq_of_covers 9 _ (by decide +kernel) fun t hf y => ?_
  blk_simp
  rw [after0_9]
  have hN : t.val < 64 := t.isLt
  have hy : (y 1).val < 512 := (y 1).isLt
  refine (q_eq m c t _).trans (((qrow_at m c t (y 1) (y 2) ⟨t.val / 16, by omega⟩ ⟨t.val % 16 * 512 + (y 1).val, by omega⟩ rfl rfl).trans (qq_at _ _ _ _).symm).trans ?_)
  congr 1
  blk_ext [idx t]

/-- Result array 1 of the launch is the reference's. -/
theorem final10 (c : Dev nD) : (dats m 0 c).arrAt 10 cfg0.N = kk (cols (hh (aX m c) (aM m c) (aG m c)) (aW m c)) := by
  refine (dats m 0 c).arrAt_eq_of_covers 10 _ (by decide +kernel) fun t hf y => ?_
  blk_simp
  rw [after0_10]
  have hN : t.val < 64 := t.isLt
  have hy : (y 1).val < 512 := (y 1).isLt
  refine (k_eq m c t _).trans (((row_at m c t (y 1) (n := 1024) 1024 (by omega) (y 2) ⟨t.val / 16, by omega⟩ ⟨t.val % 16 * 512 + (y 1).val, by omega⟩ (by omega) rfl rfl).trans (kk_at _ _ _ _).symm).trans ?_)
  congr 1
  blk_ext [idx t]

/-- Result array 2 of the launch is the reference's. -/
theorem final11 (c : Dev nD) : (dats m 0 c).arrAt 11 cfg0.N = vv (cols (hh (aX m c) (aM m c) (aG m c)) (aW m c)) := by
  refine (dats m 0 c).arrAt_eq_of_covers 11 _ (by decide +kernel) fun t hf y => ?_
  blk_simp
  rw [after0_11]
  have hN : t.val < 64 := t.isLt
  have hy : (y 1).val < 512 := (y 1).isLt
  refine (v_eq m c t _).trans (((row_at m c t (y 1) (n := 1024) 2048 (by omega) (y 2) ⟨t.val / 16, by omega⟩ ⟨t.val % 16 * 512 + (y 1).val, by omega⟩ (by omega) rfl rfl).trans (vv_at _ _ _ _).symm).trans ?_)
  congr 1
  blk_ext [idx t]

/-- Result array 3 of the launch is the reference's. -/
theorem final12 (c : Dev nD) : (dats m 0 c).arrAt 12 cfg0.N = zz (cols (hh (aX m c) (aM m c) (aG m c)) (aW m c)) := by
  refine (dats m 0 c).arrAt_eq_of_covers 12 _ (by decide +kernel) fun t hf y => ?_
  blk_simp
  rw [after0_12]
  have hN : t.val < 64 := t.isLt
  have hy : (y 1).val < 512 := (y 1).isLt
  refine (z_eq m c t _).trans (((row_at m c t (y 1) (n := 1024) 3072 (by omega) (y 2) ⟨t.val / 16, by omega⟩ ⟨t.val % 16 * 512 + (y 1).val, by omega⟩ (by omega) rfl rfl).trans (zz_at _ _ _ _).symm).trans ?_)
  congr 1
  blk_ext [idx t]

/-- Result array 4 of the launch is the reference's. -/
theorem final13 (c : Dev nD) : (dats m 0 c).arrAt 13 cfg0.N = xx (cols (hh (aX m c) (aM m c) (aG m c)) (aW m c)) := by
  refine (dats m 0 c).arrAt_eq_of_covers 13 _ (by decide +kernel) fun t hf y => ?_
  blk_simp
  rw [after0_13]
  have hN : t.val < 64 := t.isLt
  have hy : (y 1).val < 512 := (y 1).isLt
  refine (x_eq m c t _).trans (((row_at m c t (y 1) (n := 1536) 4096 (by omega) (y 2) ⟨t.val / 16, by omega⟩ ⟨t.val % 16 * 512 + (y 1).val, by omega⟩ (by omega) rfl rfl).trans (xx_at _ _ _ _).symm).trans ?_)
  congr 1
  blk_ext [idx t]

/-- Result array 5 of the launch is the reference's. -/
theorem final14 (c : Dev nD) : (dats m 0 c).arrAt 14 cfg0.N = dt (cols (hh (aX m c) (aM m c) (aG m c)) (aW m c)) := by
  refine (dats m 0 c).arrAt_eq_of_covers 14 _ (by decide +kernel) fun t hf y => ?_
  blk_simp
  rw [after0_14]
  have hN : t.val < 64 := t.isLt
  have hy : (y 1).val < 512 := (y 1).isLt
  refine (dt_eq m c t _).trans (((dtrow_at m c t (y 1) (y 2) ⟨t.val / 16, by omega⟩ ⟨t.val % 16 * 512 + (y 1).val, by omega⟩ rfl rfl)).trans ?_)
  congr 1
  blk_ext [idx t]

/-- Result array 6 of the launch is the argument, rounded. -/
theorem final15 (c : Dev nD) : (dats m 0 c).arrAt 15 cfg0.N = (truncf .bf16 (m ((c : Thread nD τ).loc main_arg4) : FVec Ideal Cert.Reference3Ideal.S2048x2048 .f32) Cert.Reference3Ideal.Gen.bitsLt_bf16_f32 : FVec Ideal Cert.Reference3Ideal.S2048x2048 .bf16) := by
  refine (dats m 0 c).arrAt_eq_of_covers 15 _ (by decide +kernel) fun t hf y => ?_
  blk_simp
  rw [after0_15]
  refine (cast0_eq m c t _).trans ?_
  pointwise
  blk_point [iblk, V, idx t]

/-- Result array 7 of the launch is the argument, rounded. -/
theorem final16 (c : Dev nD) : (dats m 0 c).arrAt 16 cfg0.N = (truncf .bf16 (m ((c : Thread nD τ).loc main_arg5) : FVec Ideal Cert.Reference3Ideal.S2048x5632 .f32) Cert.Reference3Ideal.Gen.bitsLt_bf16_f32 : FVec Ideal Cert.Reference3Ideal.S2048x5632 .bf16) := by
  refine (dats m 0 c).arrAt_eq_of_covers 16 _ (by decide +kernel) fun t hf y => ?_
  blk_simp
  rw [after0_16]
  refine (cast1_eq m c t _).trans ?_
  pointwise
  blk_point [iblk, V, idx t]

/-- Result array 8 of the launch is the argument, rounded. -/
theorem final17 (c : Dev nD) : (dats m 0 c).arrAt 17 cfg0.N = (truncf .bf16 (m ((c : Thread nD τ).loc main_arg6) : FVec Ideal Cert.Reference3Ideal.S2048x5632 .f32) Cert.Reference3Ideal.Gen.bitsLt_bf16_f32 : FVec Ideal Cert.Reference3Ideal.S2048x5632 .bf16) := by
  refine (dats m 0 c).arrAt_eq_of_covers 17 _ (by decide +kernel) fun t hf y => ?_
  blk_simp
  rw [after0_17]
  refine (cast2_eq m c t _).trans ?_
  pointwise
  blk_point [iblk, V, idx t]

/-- Result array 9 of the launch is the argument, rounded. -/
theorem final18 (c : Dev nD) : (dats m 0 c).arrAt 18 cfg0.N = (truncf .bf16 (m ((c : Thread nD τ).loc main_arg7) : FVec Ideal Cert.Reference3Ideal.S5632x2048 .f32) Cert.Reference3Ideal.Gen.bitsLt_bf16_f32 : FVec Ideal Cert.Reference3Ideal.S5632x2048 .bf16) := by
  refine (dats m 0 c).arrAt_eq_of_covers 18 _ (by decide +kernel) fun t hf y => ?_
  blk_simp
  rw [after0_18]
  refine (cast3_eq m c t _).trans ?_
  pointwise
  blk_point [iblk, V, idx t]

end Cert.Inp

end
-- ==== Proof.InClaim.lean ====
module

public import proofs.«01_k».proof.Defs
public import proofs.«01_k».proof.Proof.InValue
public import proofs.«01_k».proof.Proof.Gen.Kernel3Ideal.Value

@[expose] public section

set_option maxRecDepth 16384

noncomputable section

/-! The claim about the input projection's kernel and its reference. -/

namespace Cert.Inp

open Idealize.ShloMosaic Idealize.ShloMosaic.TcCoe Idealize.SL.Sem

/-- From any arguments, the kernel's ten result arrays and the reference's agree. -/
theorem algebraic : Cert.algebraic_Kernel3Ideal_Reference3Ideal := by
  pair_intro
  · run_from Cert.Kernel3Ideal.Value.run_blocks m g
  · run_from Cert.Reference3Ideal.Value.run m' g'
    · exact (final9 m c).symm
    · exact (final10 m c).symm
    · exact (final11 m c).symm
    · exact (final12 m c).symm
    · exact (final13 m c).symm
    · exact (final14 m c).symm
    · exact (final15 m c).symm
    · exact (final16 m c).symm
    · exact (final17 m c).symm
    · exact (final18 m c).symm

end Cert.Inp

end
-- ==== Proof.ModRef.lean ====
module

public import proofs.«01_k».proof.Proof.Gen.Reference4Ideal.Run
public import proofs.«01_k».proof.Proof.RealFacts
public import Idealize.ShloMosaic.Lib.Pipeline.ValueKit

@[expose] public section

set_option maxRecDepth 16384

noncomputable section

/-! The modulation's reference, and its value read at an index. -/

namespace Cert.Modn

open Idealize.ShloMosaic Idealize.ShloMosaic.TcCoe

/-- The conditioning through its gate `x · sigmoid x`. -/
def gate (C : FVec Ideal Cert.Reference4Ideal.S8x2048 .f32) : FVec Ideal Cert.Reference4Ideal.S8x2048 .f32 :=
  mulf C (Host.divf (broadcastInDim Cert.Reference4Ideal.S8x2048 ![] Cert.Reference4Ideal.Gen.bcast_S_S8x2048 (constant Cert.Reference4Ideal.S_ .f32 0x3F800000#32)) (addf (broadcastInDim Cert.Reference4Ideal.S8x2048 ![] Cert.Reference4Ideal.Gen.bcast_S_S8x2048 (constant Cert.Reference4Ideal.S_ .f32 0x3F800000#32)) (Host.exp (Host.negf C))))

/-- The modulation: the gated conditioning projected onto the twelve thousand shifts, scales and gates, plus the bias. -/
def rows (C : FVec Ideal Cert.Reference4Ideal.S8x2048 .f32) (W : FVec Ideal Cert.Reference4Ideal.S2048x12288 .f32) (B : FVec Ideal Cert.Reference4Ideal.S12288 .f32) :
    FVec Ideal Cert.Reference4Ideal.S8x12288 .f32 :=
  addf (Host.dotGeneral Cert.Reference4Ideal.dot_S8x2048_S2048x12288_S8x12288_1_0_0_1_n_n none (gate C) W) (broadcastInDim Cert.Reference4Ideal.S8x12288 ![0, 1] Cert.Reference4Ideal.Gen.bcast_S1x12288_S8x12288_0_1 (broadcastInDim Cert.Reference4Ideal.S1x12288 ![1] Cert.Reference4Ideal.Gen.bcast_S12288_S1x12288_1 B))

/-- An entry of the gated conditioning. -/
theorem gate_at (C : FVec Ideal Cert.Reference4Ideal.S8x2048 .f32) (r : Fin 8) (k : Fin 2048) :
    gate C (ix2 r k) = C (ix2 r k) * Ideal.div 1 (1 + Ideal.exp (-(C (ix2 r k)))) := by
  pointwise [gate]

/-- An entry of the modulation is a sum over the 2048 conditioning channels plus its bias. -/
theorem rows_at (C : FVec Ideal Cert.Reference4Ideal.S8x2048 .f32) (W : FVec Ideal Cert.Reference4Ideal.S2048x12288 .f32) (B : FVec Ideal Cert.Reference4Ideal.S12288 .f32)
    (r : Fin 8) (j : Fin 12288) :
    rows C W B (ix2 r j) = ∑ k : Fin 2048, gate C (ix2 r k) * W (ix2 k j) + B (ix1 j) := by
  pointwise [rows]

end Cert.Modn

end
-- ==== Proof.ModValue.lean ====
module

public import proofs.«01_k».proof.Proof.Gen.Kernel4Ideal.Frame
public import Idealize.ShloMosaic.Lib.Pipeline.ValueKit
public import proofs.«01_k».proof.Proof.ModRef

@[expose] public section

set_option maxRecDepth 16384

noncomputable section

/-! The modulation kernel's result array is the reference's. -/

namespace Cert.Modn

open Cert.Kernel4Ideal Cert.Kernel4Ideal.Gen Idealize.ShloMosaic Idealize.ShloMosaic.TcCoe Idealize.SL.Sem
open Idealize.ShloMosaic.Pipeline (Dat)
open Cert.RealFacts

variable (m : (ℓ : Loc nD τ sig) → Buf (Elt Ideal) ℓ)

/-- The conditioning vectors. -/
abbrev aC (c : Dev nD) : FVec Ideal Cert.Reference4Ideal.S8x2048 .f32 := m ((c : Thread nD τ).loc main_arg0)
/-- The projection's weights. -/
abbrev aW (c : Dev nD) : FVec Ideal Cert.Reference4Ideal.S2048x12288 .f32 := m ((c : Thread nD τ).loc main_arg1)
/-- The projection's bias. -/
abbrev aB (c : Dev nD) : FVec Ideal Cert.Reference4Ideal.S12288 .f32 := m ((c : Thread nD τ).loc main_arg2)

/-- The windows' block indices at grid point `t`: every conditioning row, column block `t`. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- One block of the modulation, from the input blocks, with the gate as the kernel writes it. -/
def brows (x0 : FVec Ideal S8x2048 .f32) (x1 : FVec Ideal S2048x1024 .f32) (x2 : FVec Ideal S1x1024 .f32) : FVec Ideal S8x1024 .f32 := fun y =>
  ∑ k : Fin 2048, (Ideal.ofBits .f32 1056964608#32 * x0 (ix2 (y 0) k)
    + Ideal.ofBits .f32 1056964608#32 * x0 (ix2 (y 0) k) * Ideal.tanh (Ideal.ofBits .f32 1056964608#32 * x0 (ix2 (y 0) k))) * x1 (ix2 k (y 1))
  + x2 (ix2 0 (y 1))

/-- The one tile of the result's block makes up the block. -/
theorem out3_eq (x0 : FVec Ideal S8x2048 .f32) (x1 : FVec Ideal S2048x1024 .f32) (x2 : FVec Ideal S1x1024 .f32) (y : S8x1024.Idx) :
    out0_3 (F := Ideal) x0 x1 x2 y = brows x0 x1 x2 y := by
  unfold out0_3 brows
  canon_tiles x h
  all_goals (open_payloads; pointwise; blk_point [])

/-- Where the conditioning is real, a block of the modulation is the reference's at its place. -/
theorem brows_at (c : Dev nD) (h : ∀ i, IsReal (aC m c i)) (t : Fin cfg0.N) (i : Fin 8) (col : Fin 1024) (j : Fin 12288)
    (hj : j.val = t.val * 1024 + col.val) :
    brows (iblk m c 0 t) (iblk m c 1 t) (iblk m c 2 t) (ix2 i col) = rows (aC m c) (aW m c) (aB m c) (ix2 i j) := by
  rw [rows_at]
  simp only [gate_at, ← silu_eq (h _)]
  unfold brows
  blk_point [iblk, V, idx t]

/-- Where the conditioning is real, the modulation that the launch leaves is the reference's. -/
theorem final3 (c : Dev nD) (h : ∀ i, IsReal (aC m c i)) : (dats m 0 c).arrAt 3 cfg0.N = rows (aC m c) (aW m c) (aB m c) := by
  refine (dats m 0 c).arrAt_eq_of_covers 3 _ (by decide +kernel) fun t hf y => ?_
  blk_simp
  rw [after0_3]
  have hN : t.val < 12 := t.isLt
  have hy : (y 1).val < 1024 := (y 1).isLt
  refine (out3_eq _ _ _ _).trans (Eq.trans ?_ ((brows_at m c h t (y 0) (y 1) ⟨t.val * 1024 + (y 1).val, by omega⟩ rfl).trans ?_))
  · congr 1
    blk_ext
  · congr 1
    blk_ext [idx t]

end Cert.Modn

end
-- ==== Proof.ModClaim.lean ====
module

public import proofs.«01_k».proof.Defs
public import proofs.«01_k».proof.Proof.ModValue
public import proofs.«01_k».proof.Proof.Gen.Pre_finite_mod
public import proofs.«01_k».proof.Proof.Gen.Kernel4Ideal.Value

@[expose] public section

set_option maxRecDepth 16384

noncomputable section

/-! The claim about the modulation kernel and its reference. -/

namespace Cert.Modn

open Cert.Kernel4Ideal Idealize.ShloMosaic Idealize.ShloMosaic.TcCoe Idealize.SL.Sem
open Cert.RealFacts

/-- The precondition says that the conditioning holds real numbers. -/
theorem real_of_pre (m : (ℓ : Loc nD τ sig) → Buf (Elt Ideal) ℓ) (h : Cert.Pre_Kernel4Ideal_finite_mod m) (c : Dev nD) (i) : IsReal (aC m c i) := by
  have e := congrFun (h c) (default : Cert.Pre_finite_mod.S_.Idx)
  unfold Cert.Pre_finite_mod.fn at e
  have hs : Subsingleton Cert.Pre_finite_mod.S_.Idx := ⟨fun a b => funext fun k => k.elim0⟩
  exact IsReal.of_abs_lt (Host.reduce_andi_all _ _ _ _ _ e i)

/-- From finite conditioning, the kernel's result array and the reference's agree. -/
theorem algebraic : Cert.algebraic_Kernel4Ideal_Reference4Ideal_pre_finite_mod := by
  pair_intro
  · run_from Cert.Kernel4Ideal.Value.run_blocks m g
  · run_from Cert.Reference4Ideal.Value.run m' g'
    rw [final3 m c (real_of_pre m hpre c)]
    rfl

end Cert.Modn

end
-- ==== Proof.Keep.lean ====
module

public import Idealize.ShloMosaic.Lib.Pipeline.FrameBody
public import Idealize.ShloMosaic.Lib.Scf
public import Idealize.ShloMosaic.Lib.Tactic

@[expose] public section

/-!
# Programs that keep their buffers

For a frame nothing has to be known of what a body computes: it suffices that every load and every store goes to
a buffer the body holds. `Keeps c P p` says that the program `p` runs from `P` back to `P`. The resource `P` fixes
the contents of the buffers that are only read and leaves those of the others open, so that it holds between any
two operations.
-/

noncomputable section

namespace Cert.Keep

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} [Preorder Lvl] {Λ : Labels}
variable (defs : Defs nD τ sig Val Λ) (𝒱 : Variants) (c : Thread nD τ)
variable (P R : sProp (MT nD τ sig Ix Val Name U Lvl))

/-- `P` gives the buffer of `m` at some share and takes it back unchanged. -/
def Reads {sp : Space} {s : Shape} {e : EltTy} (m : Memref sig c.2.kind sp s e) : Prop :=
  P ⊢ iprop(∃ q f, (m.view.loc c ↦[m.view.set]{q} f) ∗ ((m.view.loc c ↦[m.view.set]{q} f) -∗ P))

/-- `P` gives the buffer of `m` whole and takes it back at any contents. -/
def Writes {sp : Space} {s : Shape} {e : EltTy} (m : Memref sig c.2.kind sp s e) : Prop :=
  P ⊢ iprop(∃ f, (m.view.loc c ↦[m.view.set]{fullShare} f) ∗ (∀ g, (m.view.loc c ↦[m.view.set]{fullShare} g) -∗ P))

/-- The program runs from `P` to `P`, whatever it returns. -/
structure Keeps {α : Type} (p : Prog (TpuEff nD τ sig Val Λ c.2) α) : Prop where
  run : P ⊢ wp frame (wpE defs 𝒱 c none) Set.univ p (fun _ => P)

variable {defs 𝒱 c P R}

/-- A buffer that may be written may be read. -/
theorem Writes.reads {sp : Space} {s : Shape} {e : EltTy} {m : Memref sig c.2.kind sp s e} (h : Writes c P m) : Reads c P m := by
  refine h.trans ?_
  iintro ⟨%f, H, HP⟩
  iexists fullShare, f
  isplitl [H]; · iexact H
  iapply HP

/-- A memref owned at a value may be read. -/
theorem Reads.owns {sp : Space} {s : Shape} {e : EltTy} {m : Memref sig c.2.kind sp s e} {q : PosShare TreeShare} {X : s.Idx → Val e} :
    Reads c (owns c m q X : sProp (MT nD τ sig Ix Val Name U Lvl)) m := by
  unfold Reads Idealize.ShloMosaic.owns
  iintro ⟨%f, %hf, H⟩
  iexists q, f
  isplitl [H]; · iexact H
  iintro H
  iexists f
  isplitr; · ipureintro; exact hf
  iexact H

/-- A memref owned whole at some value may be written. -/
theorem Writes.owns {sp : Space} {s : Shape} {e : EltTy} {m : Memref sig c.2.kind sp s e} :
    Writes c (iprop(∃ X, owns c m fullShare X) : sProp (MT nD τ sig Ix Val Name U Lvl)) m := by
  unfold Writes Idealize.ShloMosaic.owns
  iintro ⟨%X, %f, -, H⟩
  iexists f
  isplitl [H]; · iexact H
  iintro %g H
  iexists _, g
  isplitr; · ipureintro; rfl
  iexact H

/-- Reading from the first part of a resource. -/
theorem Reads.left {sp : Space} {s : Shape} {e : EltTy} {m : Memref sig c.2.kind sp s e} (h : Reads c P m) :
    Reads c iprop(P ∗ R) m := by
  refine (sep_mono_left h).trans ?_
  iintro ⟨⟨%q, %f, H, HP⟩, HR⟩
  iexists q, f
  isplitl [H]; · iexact H
  iintro H
  isplitl [H HP]; · iapply HP; iexact H
  iexact HR

/-- Reading from the rest of a resource. -/
theorem Reads.right {sp : Space} {s : Shape} {e : EltTy} {m : Memref sig c.2.kind sp s e} (h : Reads c R m) :
    Reads c iprop(P ∗ R) m := by
  refine (sep_mono_right h).trans ?_
  iintro ⟨HP, ⟨%q, %f, H, HR⟩⟩
  iexists q, f
  isplitl [H]; · iexact H
  iintro H
  isplitl [HP]; · iexact HP
  iapply HR; iexact H

/-- Writing to the first part of a resource. -/
theorem Writes.left {sp : Space} {s : Shape} {e : EltTy} {m : Memref sig c.2.kind sp s e} (h : Writes c P m) :
    Writes c iprop(P ∗ R) m := by
  refine (sep_mono_left h).trans ?_
  iintro ⟨⟨%f, H, HP⟩, HR⟩
  iexists f
  isplitl [H]; · iexact H
  iintro %g H
  isplitl [H HP]; · iapply HP; iexact H
  iexact HR

/-- Writing to the rest of a resource. -/
theorem Writes.right {sp : Space} {s : Shape} {e : EltTy} {m : Memref sig c.2.kind sp s e} (h : Writes c R m) :
    Writes c iprop(P ∗ R) m := by
  refine (sep_mono_right h).trans ?_
  iintro ⟨HP, ⟨%f, H, HR⟩⟩
  iexists f
  isplitl [H]; · iexact H
  iintro %g H
  isplitl [HP]; · iexact HP
  iapply HR; iexact H

/-- Returning keeps everything. -/
theorem Keeps.pure {α : Type} (a : α) : Keeps defs 𝒱 c P (Pure.pure a : Prog (TpuEff nD τ sig Val Λ c.2) α) :=
  ⟨le_wp_ret frame (wpE defs 𝒱 c none) Set.univ a (fun _ => P)⟩

/-- One program after another. -/
theorem Keeps.bind {α β : Type} {p : Prog (TpuEff nD τ sig Val Λ c.2) α} {k : α → Prog (TpuEff nD τ sig Val Λ c.2) β}
    (hp : Keeps defs 𝒱 c P p) (hk : ∀ a, Keeps defs 𝒱 c P (k a)) : Keeps defs 𝒱 c P (p >>= k) := by
  constructor
  rw [wp_bind]
  exact hp.run.trans (wp_mono _ _ _ fun a => (hk a).run)

/-- A load from a buffer that may be read. -/
theorem Keeps.load {cs : CoreSpace} {s : Shape} {e : EltTy} {m : Memref sig c.2.kind cs s e} {r : LoadRect s} {hl : m.view.LoadsAt r}
    (h : Reads c P m) : Keeps defs 𝒱 c P (Prog.lift (.load m r hl)) := by
  refine ⟨h.trans ?_⟩
  iintro ⟨%q, %f, H, HP⟩
  iapply (wp_load 𝒱 c none Set.univ (m.view.setOn_subset_set _)) $$ H
  iintro H
  iapply (le_wp_ret _ _ _ _ _)
  iapply HP; iexact H

/-- A store into a buffer that may be written. -/
theorem Keeps.store {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1}
    (h : Writes c P m) : Keeps defs 𝒱 c P (Prog.lift (.store m r w Mk hx hm)) := by
  refine ⟨h.trans ?_⟩
  iintro ⟨%f, H, HP⟩
  iapply (wp_store 𝒱 c none Set.univ (((m.access r).setOn_subset_set Mk).trans (m.view.set_slice_subset r))) $$ H
  iintro H
  iapply (le_wp_ret _ _ _ _ _)
  iapply HP; iexact H

/-- A loop whose every trip keeps the resource. -/
theorem Keeps.loop {w : Nat} {σ : Type} (l : Scf.Loop w) (hok : l.OK) (init : σ) (body : Fin l.trips → σ → Prog (TpuEff nD τ sig Val Λ c.2) σ)
    (h : ∀ k a, Keeps defs 𝒱 c P (body k a)) : Keeps defs 𝒱 c P (Scf.Loop.for l hok init body) := by
  refine ⟨BIBase.Entails.trans ?_ (Scf.wp_for _ _ _ _ _ _ hok init body (fun _ _ => P) (fun k a => (h k a).run))⟩
  iintro H
  isplitl [H]; · iexact H
  iintro %a H; iexact H

/-- A conditional both of whose branches keep the resource. -/
theorem Keeps.dite {α : Type} {b : Prop} [Decidable b] {p : b → Prog (TpuEff nD τ sig Val Λ c.2) α} {p' : ¬b → Prog (TpuEff nD τ sig Val Λ c.2) α}
    (h : ∀ hb, Keeps defs 𝒱 c P (p hb)) (h' : ∀ hb, Keeps defs 𝒱 c P (p' hb)) : Keeps defs 𝒱 c P (if hb : b then p hb else p' hb) := by
  by_cases hb : b
  · rw [dif_pos hb]; exact h hb
  · rw [dif_neg hb]; exact h' hb

end Cert.Keep

end
-- ==== Proof.AttBodyIdeal.lean ====
module

public import proofs.«01_k».proof.Kernel5Ideal
public import proofs.«01_k».proof.Proof.Keep

@[expose] public section

noncomputable section

/-! The attention's body, idealized, keeps its buffers. -/

namespace Cert.Kernel5Ideal.Attn

open Cert.Keep Cert.Kernel5Ideal
open Idealize.ShloMosaic Idealize.ShloMosaic.TcCoe
open Idealize.SL Idealize.SL.RA Idealize.SL.BI Idealize.SL.Sem

variable {F : FTy → Type} [FloatOps F] [Facts]
variable {Ix : Type} [DecidableEq Ix] {Name : Type} [DecidableEq Name] {U : Type} [URA U] {Lvl : Type} [Preorder Lvl]

set_option maxHeartbeats 0 in
/-- From a resource that gives the seven input blocks to read, and the output block and the eight scratch buffers to write,
    the body runs back to that resource: every load and store in it, in both its branches and in all its loops, goes to one
    of these sixteen buffers. -/
theorem body_keeps (defs : Defs nD τ sig (Elt F) Λ₀) (𝒱 : Variants) (c : Dev nD) (P : sProp (MT nD τ sig Ix (Elt F) Name U Lvl))
  (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1x1024x1024 .bf16) (harg4 : arg4.IsWhole) (arg5 : Memref sig .tc .vmem S1x512x1024 .bf16) (harg5 : arg5.IsWhole) (arg6 : Memref sig .tc .vmem S1x1024x1024 .bf16) (harg6 : arg6.IsWhole) (arg7 : Memref sig .tc .vmem S4x576x256 .f32) (harg7 : arg7.IsWhole) (arg8 : Memref sig .tc .vmem S1x1024 .f32) (harg8 : arg8.IsWhole) (arg9 : Memref sig .tc .vmem S1x1024x1024 .bf16) (harg9 : arg9.IsWhole) (arg10 : Memref sig .tc .vmem S1536x1024 .bf16) (harg10 : arg10.IsWhole) (arg11 : Memref sig .tc .vmem S1600x1024 .bf16) (harg11 : arg11.IsWhole) (arg12 : Memref sig .tc .vmem S2x4x576x256 .f32) (harg12 : arg12.IsWhole) (arg13 : Memref sig .tc .vmem S2x4x256x640 .bf16) (harg13 : arg13.IsWhole) (arg14 : Memref sig .tc .vmem S2x4x8x256 .f32) (harg14 : arg14.IsWhole) (arg15 : Memref sig .tc .vmem S2x4x8x256 .f32) (harg15 : arg15.IsWhole) (arg16 : Memref sig .tc .vmem S2x64x1024 .f32) (harg16 : arg16.IsWhole) (arg17 : Memref sig .tc .vmem S2x4x8x256 .f32) (harg17 : arg17.IsWhole)
  (h2 : Reads (c : Thread nD τ) P arg2) (h3 : Reads (c : Thread nD τ) P arg3) (h4 : Reads (c : Thread nD τ) P arg4)
  (h5 : Reads (c : Thread nD τ) P arg5) (h6 : Reads (c : Thread nD τ) P arg6) (h7 : Reads (c : Thread nD τ) P arg7)
  (h8 : Reads (c : Thread nD τ) P arg8) (h9 : Writes (c : Thread nD τ) P arg9) (h10 : Writes (c : Thread nD τ) P arg10)
  (h11 : Writes (c : Thread nD τ) P arg11) (h12 : Writes (c : Thread nD τ) P arg12) (h13 : Writes (c : Thread nD τ) P arg13)
  (h14 : Writes (c : Thread nD τ) P arg14) (h15 : Writes (c : Thread nD τ) P arg15) (h16 : Writes (c : Thread nD τ) P arg16)
  (h17 : Writes (c : Thread nD τ) P arg17) :
  Keeps defs 𝒱 (c : Thread nD τ) P (cc0_chunk_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  repeat' first
    | with_reducible exact Keeps.load (by first | assumption | exact Writes.reads (by assumption))
    | with_reducible exact Keeps.store (by assumption)
    | with_reducible exact Keeps.pure _
    | with_reducible apply Keeps.dite
    | with_reducible apply Keeps.loop
    | intro _
    | apply Keeps.bind
    | apply Keeps.pure
    | apply Keeps.store
    | apply Keeps.loop

end Cert.Kernel5Ideal.Attn
end
-- ==== Proof.AttFrameIdeal.lean ====
module

public import proofs.«01_k».proof.Proof.Gen.Kernel5Ideal.Frame
public import Idealize.ShloMosaic.Lib.Pipeline.Frame
public import proofs.«01_k».proof.Proof.AttBodyIdeal

@[expose] public section

noncomputable section

/-! The frame of the attention call, idealized: the launch over a body that keeps its buffers. -/

namespace Cert.Kernel5Ideal.Attn

open Cert.Kernel5Ideal Cert.Kernel5Ideal.Gen Cert.Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the output's window is forgotten: of it nothing is said. -/
def forgets0 : Fin 8 → Bool := fun w => w == 7

/-- The launch's data on core `c`: every window's array as the region finds it, the inputs' blocks left in place, nothing named
    of the output, and shares that let two windows read one array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨_ + 8, h⟩ => absurd h (Nat.not_lt.2 (Nat.le_add_left _ _))
  Φ _ := Pipeline.ΦA spec0 c
  q w := Pipeline.shareOf spec0 w
  owed _ := 0

/-- The arrays of the launch's data are those the region finds. -/
theorem A_eq (c : Dev nD) (w : Fin cfg0.W) : (dats m 0 c).A w = V m c (Pipeline.arrRef spec0 w) := by dsimp only [dats]

/-- What the body holds at point `t`: each input block at its contents, the output block and the scratch buffers at any, and what
    the launch carries past it. -/
def held (c : Dev nD) (t : Fin cfg0.N) : sProp 𝕄 :=
  iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ (∃ X, owns (c : Thread nD τ) (win0_7.stage (cfg0.slots t 7)) fullShare X)
    ∗ (∃ X, owns (c : Thread nD τ) (Memref.whole cc0_scratch0) fullShare X)
    ∗ (∃ X, owns (c : Thread nD τ) (Memref.whole cc0_scratch1) fullShare X)
    ∗ (∃ X, owns (c : Thread nD τ) (Memref.whole cc0_scratch2) fullShare X)
    ∗ (∃ X, owns (c : Thread nD τ) (Memref.whole cc0_scratch3) fullShare X)
    ∗ (∃ X, owns (c : Thread nD τ) (Memref.whole cc0_scratch4) fullShare X)
    ∗ (∃ X, owns (c : Thread nD τ) (Memref.whole cc0_scratch5) fullShare X)
    ∗ (∃ X, owns (c : Thread nD τ) (Memref.whole cc0_scratch6) fullShare X)
    ∗ (∃ X, owns (c : Thread nD τ) (Memref.whole cc0_scratch7) fullShare X)
    ∗ (∃ r, prngReg c r) ∗ (dats m 0 c).owesAt () t.castSucc)

/-- The body at point `t` keeps what it holds. -/
theorem held_keeps (c : Dev nD) (t : Fin cfg0.N) : Keeps (defs₀ (F := F)) Variants.none (c : Thread nD τ) (held m c t) (bodyAt0 t) := by
  unfold held
  exact body_keeps _ _ c _ _ _ _ _ _ _ _ _ _ _ _ _ _ _ _ _ _ _ _ _ _ _ _ _ _ _ _ _ _ _ _ _ _
    Reads.owns.left Reads.owns.left.right Reads.owns.left.right.right Reads.owns.left.right.right.right
    Reads.owns.left.right.right.right.right Reads.owns.left.right.right.right.right.right
    Reads.owns.left.right.right.right.right.right.right Writes.owns.left.right.right.right.right.right.right.right
    Writes.owns.left.right.right.right.right.right.right.right.right
    Writes.owns.left.right.right.right.right.right.right.right.right.right
    Writes.owns.left.right.right.right.right.right.right.right.right.right.right
    Writes.owns.left.right.right.right.right.right.right.right.right.right.right.right
    Writes.owns.left.right.right.right.right.right.right.right.right.right.right.right.right
    Writes.owns.left.right.right.right.right.right.right.right.right.right.right.right.right.right
    Writes.owns.left.right.right.right.right.right.right.right.right.right.right.right.right.right.right
    Writes.owns.left.right.right.right.right.right.right.right.right.right.right.right.right.right.right.right

/-- What the launch hands the body at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ X, owns (c : Thread nD τ) (win0_7.stage (cfg0.slots t 7)) fullShare X))

/-- What the body hands back at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ X, owns (c : Thread nD τ) (win0_7.stage (cfg0.slots t 7)) fullShare X))

-- seven windows' contents are found by unfolding the launch's data
set_option maxHeartbeats 2000000 in
/-- The launch hands the body what it holds. -/
theorem pre_held (c : Dev nD) (t : Fin cfg0.N) : bodyPre m c t ⊢ held m c t := by
  unfold bodyPre held
  rw [show (dats m 0 c).Φ t.castSucc = Pipeline.ΦA spec0 c from rfl]
  simp only [before0_0_of m (dats m 0 c) rfl (fun _ => rfl) t, before0_1_of m (dats m 0 c) rfl (fun _ => rfl) t,
    before0_2_of m (dats m 0 c) rfl (fun _ => rfl) t, before0_3_of m (dats m 0 c) rfl (fun _ => rfl) t,
    before0_4_of m (dats m 0 c) rfl (fun _ => rfl) t, before0_5_of m (dats m 0 c) rfl (fun _ => rfl) t,
    before0_6_of m (dats m 0 c) rfl (fun _ => rfl) t, owns_whole]
  unfold Pipeline.ΦA
  rw [scopedRest0_eq]
  iintro ⟨⟨⟨S0, S1, S2, S3, S4, S5, S6, S7⟩, G⟩, O, ⟨%d0, H0⟩, ⟨%d1, H1⟩, ⟨%d2, H2⟩, ⟨%d3, H3⟩, ⟨%d4, H4⟩, ⟨%d5, H5⟩, ⟨%d6, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [G]; · iexact G
  iexact O

/-- What the body holds is what the launch takes back. -/
theorem held_post (c : Dev nD) (t : Fin cfg0.N) : held m c t ⊢ bodyPost m c t := by
  unfold bodyPost held
  rw [show (dats m 0 c).Φ t.succ = Pipeline.ΦA spec0 c from rfl,
    show (dats m 0 c).owesAt () t.succ = (dats m 0 c).owesAt () t.castSucc from rfl]
  simp only [owns_whole]
  unfold Pipeline.ΦA
  rw [scopedRest0_eq]
  iintro ⟨H0, H1, H2, H3, H4, H5, H6, H7, S0, S1, S2, S3, S4, S5, S6, S7, G, O⟩
  isplitl [S0 S1 S2 S3 S4 S5 S6 S7 G]
  · isplitr [G]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact G
  isplitl [O]; · iexact O
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's triple at point `t`. -/
theorem sound_body (c : Dev nD) (t : Fin cfg0.N) :
    bodyPre m c t ⊢ wp frame (wpE (defs₀ (F := F)) Variants.none c none) Set.univ (bodyAt0 t) (fun _ => bodyPost m c t) :=
  (pre_held m c t).trans ((held_keeps m c t).run.trans (wp_mono _ _ _ fun _ => held_post m c t))

/-- The body table's row at point `t` is the body there. -/
theorem defs₀_row (t : Fin cfg0.N) : defs₀ (F := F) .tc cfg0.body (cfg0.bodyArgs t (cfg0.slots t)) = bodyAt0 t := by
  unfold defs₀; rw [Defs.onTc_tc]

/-- The launch's obligation on the body, the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this statement
set_option backward.isDefEq.respectTransparency.types false in
/-- From any memory with zero counters, every execution ends with the inputs' arrays and the other unscoped buffers as the region
    found them, and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m} in
/-- An input window's array ends as the region found it. -/
theorem kept {r : PUnit × MemSt nD τ sig (Elt F)}
    (h : Pipeline.RDat.FramePost (cfgs 0) (fun c => (dats (F := F) m 0 c).toRForget forgets0) (V m) r) (c : Dev nD) (w : Fin cfg0.W)
    (hw : (cfg0.win w).isOut = false) :
    r.2.mem ((cfg0.spec w).arr.view.loc (c.tc : Thread nD τ)) = V m c (Pipeline.arrRef spec0 w) := by
  have h1 := (h c).1 w
  rw [Pipeline.RDat.ArrAt_in _ w hw] at h1
  exact h1

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(kept h.1 c 0 rfl).trans (V_main_arg0 m c), (kept h.1 c 2 rfl).trans (V_main_arg1 m c),
      (kept h.1 c 4 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.Kernel5Ideal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite_mod
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.FfnClaim
public import proofs.«01_k».proof.Proof.OutClaim
public import proofs.«01_k».proof.Proof.InClaim
public import proofs.«01_k».proof.Proof.ModClaim
public import proofs.«01_k».proof.Proof.AttFrame
public import proofs.«01_k».proof.Proof.AttFrameIdeal
public import Idealize.ShloMosaic.Adequacy
public import Idealize.ShloMosaic.Init

@[expose] public section

noncomputable section

namespace Cert.Proof

open Idealize.ShloMosaic Idealize.SL.Sem Cert.Kernel

/-- Every claim: the frames of the fourteen programs (four of them also under a precondition), for each of the five calls
    that the idealization preserves the kernel, and for each but the attention that its results are the reference's. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Pre_finite.Gen.facts, Cert.Pre_finite_mod.Gen.facts,
  fun m ρ _ => Cert.Kernel.Gen.frame m ρ,
  fun m ρ _ => Cert.KernelIdeal.Gen.frame m ρ,
  fun m ρ _ => Cert.KernelIdeal.Gen.frame m ρ,
  fun m ρ _ => θ_run_mono (Cert.ReferenceIdeal.Value.run m ρ) fun _ h => ⟨fun c => (h c).2, sem_eq_zero_of_no_sems (by decide) _⟩,
  fun m ρ _ => θ_run_mono (Cert.ReferenceIdeal.Value.run m ρ) fun _ h => ⟨fun c => (h c).2, sem_eq_zero_of_no_sems (by decide) _⟩,
  fun m ρ _ => Cert.Kernel2.Gen.frame m ρ,
  fun m ρ _ => Cert.Kernel2Ideal.Gen.frame m ρ,
  fun m ρ _ => θ_run_mono (Cert.Reference2Ideal.Value.run m ρ) fun _ h => ⟨fun c => (h c).2.2, sem_eq_zero_of_no_sems (by decide) _⟩,
  fun m ρ _ => Cert.Kernel3.Gen.frame m ρ,
  fun m ρ _ => Cert.Kernel3Ideal.Gen.frame m ρ,
  fun m ρ _ => θ_run_mono (Cert.Reference3Ideal.Value.run m ρ) fun _ h => ⟨fun c => (h c).2.2.2.2.2.2.2.2.2.2, sem_eq_zero_of_no_sems (by decide) _⟩,
  fun m ρ _ => Cert.Kernel4.Gen.frame m ρ,
  fun m ρ _ => Cert.Kernel4Ideal.Gen.frame m ρ,
  fun m ρ _ => Cert.Kernel4Ideal.Gen.frame m ρ,
  fun m ρ _ => θ_run_mono (Cert.Reference4Ideal.Value.run m ρ) fun _ h => ⟨fun c => (h c).2, sem_eq_zero_of_no_sems (by decide) _⟩,
  fun m ρ _ => θ_run_mono (Cert.Reference4Ideal.Value.run m ρ) fun _ h => ⟨fun c => (h c).2, sem_eq_zero_of_no_sems (by decide) _⟩,
  fun m ρ _ => Cert.Kernel5.Attn.frame m ρ,
  fun m ρ _ => Cert.Kernel5Ideal.Attn.frame m ρ,
  trivial, Cert.Ffn.algebraic, trivial, Cert.Outp.algebraic, trivial, Cert.Inp.algebraic, trivial, Cert.Modn.algebraic, trivial⟩

end Cert.Proof

end
